-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def Pre_Second (m : (ℓ : Loc Cert.Second.nD Cert.Second.τ Cert.Second.sig) → Buf (Elt Bits) ℓ) : Prop :=
  True

def Pre_SecondIdeal (m : (ℓ : Loc Cert.SecondIdeal.nD Cert.SecondIdeal.τ Cert.SecondIdeal.sig) → Buf (Elt Ideal) ℓ) : Prop :=
  True

def Pre_SecondIdeal_finite_second [hPre_finite_second : Cert.Pre_finite_second.Facts] (m : (ℓ : Loc Cert.SecondIdeal.nD Cert.SecondIdeal.τ Cert.SecondIdeal.sig) → Buf (Elt Ideal) ℓ) : Prop :=
  ∀ c : Dev Cert.SecondIdeal.nD,
    (Cert.Pre_finite_second.fn (F := Ideal) (m ((c.tc : Thread Cert.SecondIdeal.nD Cert.SecondIdeal.τ).loc Cert.SecondIdeal.main_arg0)) (m ((c.tc : Thread Cert.SecondIdeal.nD Cert.SecondIdeal.τ).loc Cert.SecondIdeal.main_arg1)) (m ((c.tc : Thread Cert.SecondIdeal.nD Cert.SecondIdeal.τ).loc Cert.SecondIdeal.main_arg2)) (m ((c.tc : Thread Cert.SecondIdeal.nD Cert.SecondIdeal.τ).loc Cert.SecondIdeal.main_arg3)) (m ((c.tc : Thread Cert.SecondIdeal.nD Cert.SecondIdeal.τ).loc Cert.SecondIdeal.main_arg4)) (m ((c.tc : Thread Cert.SecondIdeal.nD Cert.SecondIdeal.τ).loc Cert.SecondIdeal.main_arg5))).1 = (fun _ => 1#1)
    ∧ (Cert.Pre_finite_second.fn (F := Ideal) (m ((c.tc : Thread Cert.SecondIdeal.nD Cert.SecondIdeal.τ).loc Cert.SecondIdeal.main_arg0)) (m ((c.tc : Thread Cert.SecondIdeal.nD Cert.SecondIdeal.τ).loc Cert.SecondIdeal.main_arg1)) (m ((c.tc : Thread Cert.SecondIdeal.nD Cert.SecondIdeal.τ).loc Cert.SecondIdeal.main_arg2)) (m ((c.tc : Thread Cert.SecondIdeal.nD Cert.SecondIdeal.τ).loc Cert.SecondIdeal.main_arg3)) (m ((c.tc : Thread Cert.SecondIdeal.nD Cert.SecondIdeal.τ).loc Cert.SecondIdeal.main_arg4)) (m ((c.tc : Thread Cert.SecondIdeal.nD Cert.SecondIdeal.τ).loc Cert.SecondIdeal.main_arg5))).2.1 = (fun _ => 1#1)
    ∧ (Cert.Pre_finite_second.fn (F := Ideal) (m ((c.tc : Thread Cert.SecondIdeal.nD Cert.SecondIdeal.τ).loc Cert.SecondIdeal.main_arg0)) (m ((c.tc : Thread Cert.SecondIdeal.nD Cert.SecondIdeal.τ).loc Cert.SecondIdeal.main_arg1)) (m ((c.tc : Thread Cert.SecondIdeal.nD Cert.SecondIdeal.τ).loc Cert.SecondIdeal.main_arg2)) (m ((c.tc : Thread Cert.SecondIdeal.nD Cert.SecondIdeal.τ).loc Cert.SecondIdeal.main_arg3)) (m ((c.tc : Thread Cert.SecondIdeal.nD Cert.SecondIdeal.τ).loc Cert.SecondIdeal.main_arg4)) (m ((c.tc : Thread Cert.SecondIdeal.nD Cert.SecondIdeal.τ).loc Cert.SecondIdeal.main_arg5))).2.2 = (fun _ => 1#1)

def Pre_SecondReferenceIdeal (m : (ℓ : Loc Cert.SecondReferenceIdeal.nD Cert.SecondReferenceIdeal.τ Cert.SecondReferenceIdeal.sig) → Buf (Elt Ideal) ℓ) : Prop :=
  True

def Pre_SecondReferenceIdeal_finite_second [hPre_finite_second : Cert.Pre_finite_second.Facts] (m : (ℓ : Loc Cert.SecondReferenceIdeal.nD Cert.SecondReferenceIdeal.τ Cert.SecondReferenceIdeal.sig) → Buf (Elt Ideal) ℓ) : Prop :=
  ∀ c : Dev Cert.SecondReferenceIdeal.nD,
    (Cert.Pre_finite_second.fn (F := Ideal) (m ((c.tc : Thread Cert.SecondReferenceIdeal.nD Cert.SecondReferenceIdeal.τ).loc Cert.SecondReferenceIdeal.main_arg0)) (m ((c.tc : Thread Cert.SecondReferenceIdeal.nD Cert.SecondReferenceIdeal.τ).loc Cert.SecondReferenceIdeal.main_arg1)) (m ((c.tc : Thread Cert.SecondReferenceIdeal.nD Cert.SecondReferenceIdeal.τ).loc Cert.SecondReferenceIdeal.main_arg2)) (m ((c.tc : Thread Cert.SecondReferenceIdeal.nD Cert.SecondReferenceIdeal.τ).loc Cert.SecondReferenceIdeal.main_arg3)) (m ((c.tc : Thread Cert.SecondReferenceIdeal.nD Cert.SecondReferenceIdeal.τ).loc Cert.SecondReferenceIdeal.main_arg4)) (m ((c.tc : Thread Cert.SecondReferenceIdeal.nD Cert.SecondReferenceIdeal.τ).loc Cert.SecondReferenceIdeal.main_arg5))).1 = (fun _ => 1#1)
    ∧ (Cert.Pre_finite_second.fn (F := Ideal) (m ((c.tc : Thread Cert.SecondReferenceIdeal.nD Cert.SecondReferenceIdeal.τ).loc Cert.SecondReferenceIdeal.main_arg0)) (m ((c.tc : Thread Cert.SecondReferenceIdeal.nD Cert.SecondReferenceIdeal.τ).loc Cert.SecondReferenceIdeal.main_arg1)) (m ((c.tc : Thread Cert.SecondReferenceIdeal.nD Cert.SecondReferenceIdeal.τ).loc Cert.SecondReferenceIdeal.main_arg2)) (m ((c.tc : Thread Cert.SecondReferenceIdeal.nD Cert.SecondReferenceIdeal.τ).loc Cert.SecondReferenceIdeal.main_arg3)) (m ((c.tc : Thread Cert.SecondReferenceIdeal.nD Cert.SecondReferenceIdeal.τ).loc Cert.SecondReferenceIdeal.main_arg4)) (m ((c.tc : Thread Cert.SecondReferenceIdeal.nD Cert.SecondReferenceIdeal.τ).loc Cert.SecondReferenceIdeal.main_arg5))).2.1 = (fun _ => 1#1)
    ∧ (Cert.Pre_finite_second.fn (F := Ideal) (m ((c.tc : Thread Cert.SecondReferenceIdeal.nD Cert.SecondReferenceIdeal.τ).loc Cert.SecondReferenceIdeal.main_arg0)) (m ((c.tc : Thread Cert.SecondReferenceIdeal.nD Cert.SecondReferenceIdeal.τ).loc Cert.SecondReferenceIdeal.main_arg1)) (m ((c.tc : Thread Cert.SecondReferenceIdeal.nD Cert.SecondReferenceIdeal.τ).loc Cert.SecondReferenceIdeal.main_arg2)) (m ((c.tc : Thread Cert.SecondReferenceIdeal.nD Cert.SecondReferenceIdeal.τ).loc Cert.SecondReferenceIdeal.main_arg3)) (m ((c.tc : Thread Cert.SecondReferenceIdeal.nD Cert.SecondReferenceIdeal.τ).loc Cert.SecondReferenceIdeal.main_arg4)) (m ((c.tc : Thread Cert.SecondReferenceIdeal.nD Cert.SecondReferenceIdeal.τ).loc Cert.SecondReferenceIdeal.main_arg5))).2.2 = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Second [hSecond : Cert.Second.Facts] : Prop :=
  ∀ (m : (ℓ : Loc Cert.Second.nD Cert.Second.τ Cert.Second.sig) → Buf (Elt Bits) ℓ) (g : Dev Cert.Second.nD → PrngReg), Pre_Second m →
    θ_run (Cert.Second.defs (F := Bits)) (onTc (τ := Cert.Second.τ) (Cert.Second.main (F := Bits))) ⟨m, fun _ => 0, g⟩ (fun r => (∀ c : Dev Cert.Second.nD,
      r.2.mem ((c.tc : Thread Cert.Second.nD Cert.Second.τ).loc Cert.Second.main_arg0) = m ((c.tc : Thread Cert.Second.nD Cert.Second.τ).loc Cert.Second.main_arg0)
      ∧ r.2.mem ((c.tc : Thread Cert.Second.nD Cert.Second.τ).loc Cert.Second.main_arg1) = m ((c.tc : Thread Cert.Second.nD Cert.Second.τ).loc Cert.Second.main_arg1)
      ∧ r.2.mem ((c.tc : Thread Cert.Second.nD Cert.Second.τ).loc Cert.Second.main_arg2) = m ((c.tc : Thread Cert.Second.nD Cert.Second.τ).loc Cert.Second.main_arg2)
      ∧ r.2.mem ((c.tc : Thread Cert.Second.nD Cert.Second.τ).loc Cert.Second.main_arg3) = m ((c.tc : Thread Cert.Second.nD Cert.Second.τ).loc Cert.Second.main_arg3)
      ∧ r.2.mem ((c.tc : Thread Cert.Second.nD Cert.Second.τ).loc Cert.Second.main_arg4) = m ((c.tc : Thread Cert.Second.nD Cert.Second.τ).loc Cert.Second.main_arg4)
      ∧ r.2.mem ((c.tc : Thread Cert.Second.nD Cert.Second.τ).loc Cert.Second.main_arg5) = m ((c.tc : Thread Cert.Second.nD Cert.Second.τ).loc Cert.Second.main_arg5))
      ∧ r.2.sem = fun _ => 0)

def quiescent_SecondIdeal [hSecondIdeal : Cert.SecondIdeal.Facts] : Prop :=
  ∀ (m : (ℓ : Loc Cert.SecondIdeal.nD Cert.SecondIdeal.τ Cert.SecondIdeal.sig) → Buf (Elt Ideal) ℓ) (g : Dev Cert.SecondIdeal.nD → PrngReg), Pre_SecondIdeal m →
    θ_run (Cert.SecondIdeal.defs (F := Ideal)) (onTc (τ := Cert.SecondIdeal.τ) (Cert.SecondIdeal.main (F := Ideal))) ⟨m, fun _ => 0, g⟩ (fun r => (∀ c : Dev Cert.SecondIdeal.nD,
      r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
      ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
      ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
      ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
      ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4)
      ∧ r.2.mem ((c.tc : Thread Cert.SecondIdeal.nD Cert.SecondIdeal.τ).loc Cert.SecondIdeal.main_arg5) = m ((c.tc : Thread Cert.SecondIdeal.nD Cert.SecondIdeal.τ).loc Cert.SecondIdeal.main_arg5))
      ∧ r.2.sem = fun _ => 0)

def quiescent_SecondIdeal_pre_finite_second [hSecondIdeal : Cert.SecondIdeal.Facts] [hPre_finite_second : Cert.Pre_finite_second.Facts] : Prop :=
  ∀ (m : (ℓ : Loc Cert.SecondIdeal.nD Cert.SecondIdeal.τ Cert.SecondIdeal.sig) → Buf (Elt Ideal) ℓ) (g : Dev Cert.SecondIdeal.nD → PrngReg), Pre_SecondIdeal_finite_second m →
    θ_run (Cert.SecondIdeal.defs (F := Ideal)) (onTc (τ := Cert.SecondIdeal.τ) (Cert.SecondIdeal.main (F := Ideal))) ⟨m, fun _ => 0, g⟩ (fun r => (∀ c : Dev Cert.SecondIdeal.nD,
      r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
      ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
      ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
      ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
      ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4)
      ∧ r.2.mem ((c.tc : Thread Cert.SecondIdeal.nD Cert.SecondIdeal.τ).loc Cert.SecondIdeal.main_arg5) = m ((c.tc : Thread Cert.SecondIdeal.nD Cert.SecondIdeal.τ).loc Cert.SecondIdeal.main_arg5))
      ∧ r.2.sem = fun _ => 0)

def quiescent_SecondReferenceIdeal [hSecondReferenceIdeal : Cert.SecondReferenceIdeal.Facts] : Prop :=
  ∀ (m : (ℓ : Loc Cert.SecondReferenceIdeal.nD Cert.SecondReferenceIdeal.τ Cert.SecondReferenceIdeal.sig) → Buf (Elt Ideal) ℓ) (g : Dev Cert.SecondReferenceIdeal.nD → PrngReg), Pre_SecondReferenceIdeal m →
    θ_run (Cert.SecondReferenceIdeal.defs (F := Ideal)) (onTc (τ := Cert.SecondReferenceIdeal.τ) (Cert.SecondReferenceIdeal.main (F := Ideal))) ⟨m, fun _ => 0, g⟩ (fun r => (∀ c : Dev Cert.SecondReferenceIdeal.nD,
      r.2.mem ((c.tc : Thread Cert.SecondReferenceIdeal.nD Cert.SecondReferenceIdeal.τ).loc Cert.SecondReferenceIdeal.main_arg0) = m ((c.tc : Thread Cert.SecondReferenceIdeal.nD Cert.SecondReferenceIdeal.τ).loc Cert.SecondReferenceIdeal.main_arg0)
      ∧ r.2.mem ((c.tc : Thread Cert.SecondReferenceIdeal.nD Cert.SecondReferenceIdeal.τ).loc Cert.SecondReferenceIdeal.main_arg1) = m ((c.tc : Thread Cert.SecondReferenceIdeal.nD Cert.SecondReferenceIdeal.τ).loc Cert.SecondReferenceIdeal.main_arg1)
      ∧ r.2.mem ((c.tc : Thread Cert.SecondReferenceIdeal.nD Cert.SecondReferenceIdeal.τ).loc Cert.SecondReferenceIdeal.main_arg2) = m ((c.tc : Thread Cert.SecondReferenceIdeal.nD Cert.SecondReferenceIdeal.τ).loc Cert.SecondReferenceIdeal.main_arg2)
      ∧ r.2.mem ((c.tc : Thread Cert.SecondReferenceIdeal.nD Cert.SecondReferenceIdeal.τ).loc Cert.SecondReferenceIdeal.main_arg3) = m ((c.tc : Thread Cert.SecondReferenceIdeal.nD Cert.SecondReferenceIdeal.τ).loc Cert.SecondReferenceIdeal.main_arg3)
      ∧ r.2.mem ((c.tc : Thread Cert.SecondReferenceIdeal.nD Cert.SecondReferenceIdeal.τ).loc Cert.SecondReferenceIdeal.main_arg4) = m ((c.tc : Thread Cert.SecondReferenceIdeal.nD Cert.SecondReferenceIdeal.τ).loc Cert.SecondReferenceIdeal.main_arg4)
      ∧ r.2.mem ((c.tc : Thread Cert.SecondReferenceIdeal.nD Cert.SecondReferenceIdeal.τ).loc Cert.SecondReferenceIdeal.main_arg5) = m ((c.tc : Thread Cert.SecondReferenceIdeal.nD Cert.SecondReferenceIdeal.τ).loc Cert.SecondReferenceIdeal.main_arg5))
      ∧ r.2.sem = fun _ => 0)

def quiescent_SecondReferenceIdeal_pre_finite_second [hSecondReferenceIdeal : Cert.SecondReferenceIdeal.Facts] [hPre_finite_second : Cert.Pre_finite_second.Facts] : Prop :=
  ∀ (m : (ℓ : Loc Cert.SecondReferenceIdeal.nD Cert.SecondReferenceIdeal.τ Cert.SecondReferenceIdeal.sig) → Buf (Elt Ideal) ℓ) (g : Dev Cert.SecondReferenceIdeal.nD → PrngReg), Pre_SecondReferenceIdeal_finite_second m →
    θ_run (Cert.SecondReferenceIdeal.defs (F := Ideal)) (onTc (τ := Cert.SecondReferenceIdeal.τ) (Cert.SecondReferenceIdeal.main (F := Ideal))) ⟨m, fun _ => 0, g⟩ (fun r => (∀ c : Dev Cert.SecondReferenceIdeal.nD,
      r.2.mem ((c.tc : Thread Cert.SecondReferenceIdeal.nD Cert.SecondReferenceIdeal.τ).loc Cert.SecondReferenceIdeal.main_arg0) = m ((c.tc : Thread Cert.SecondReferenceIdeal.nD Cert.SecondReferenceIdeal.τ).loc Cert.SecondReferenceIdeal.main_arg0)
      ∧ r.2.mem ((c.tc : Thread Cert.SecondReferenceIdeal.nD Cert.SecondReferenceIdeal.τ).loc Cert.SecondReferenceIdeal.main_arg1) = m ((c.tc : Thread Cert.SecondReferenceIdeal.nD Cert.SecondReferenceIdeal.τ).loc Cert.SecondReferenceIdeal.main_arg1)
      ∧ r.2.mem ((c.tc : Thread Cert.SecondReferenceIdeal.nD Cert.SecondReferenceIdeal.τ).loc Cert.SecondReferenceIdeal.main_arg2) = m ((c.tc : Thread Cert.SecondReferenceIdeal.nD Cert.SecondReferenceIdeal.τ).loc Cert.SecondReferenceIdeal.main_arg2)
      ∧ r.2.mem ((c.tc : Thread Cert.SecondReferenceIdeal.nD Cert.SecondReferenceIdeal.τ).loc Cert.SecondReferenceIdeal.main_arg3) = m ((c.tc : Thread Cert.SecondReferenceIdeal.nD Cert.SecondReferenceIdeal.τ).loc Cert.SecondReferenceIdeal.main_arg3)
      ∧ r.2.mem ((c.tc : Thread Cert.SecondReferenceIdeal.nD Cert.SecondReferenceIdeal.τ).loc Cert.SecondReferenceIdeal.main_arg4) = m ((c.tc : Thread Cert.SecondReferenceIdeal.nD Cert.SecondReferenceIdeal.τ).loc Cert.SecondReferenceIdeal.main_arg4)
      ∧ r.2.mem ((c.tc : Thread Cert.SecondReferenceIdeal.nD Cert.SecondReferenceIdeal.τ).loc Cert.SecondReferenceIdeal.main_arg5) = m ((c.tc : Thread Cert.SecondReferenceIdeal.nD Cert.SecondReferenceIdeal.τ).loc Cert.SecondReferenceIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4)
      ∧ r.2.mem ((c.tc : Thread Cert.QkvReferenceIdeal.nD Cert.QkvReferenceIdeal.τ).loc Cert.QkvReferenceIdeal.main_arg5) = m ((c.tc : Thread Cert.QkvReferenceIdeal.nD Cert.QkvReferenceIdeal.τ).loc Cert.QkvReferenceIdeal.main_arg5))
      ∧ r.2.sem = fun _ => 0)

def preserves_Kernel_KernelIdeal : Prop :=
  IdealRules.bf16_pair.BufferStatement Cert.KernelIdeal.S64x2x256 Cert.KernelIdeal.S64x1x256
  ∧ IdealRules.bf16_pair.PackStatement Cert.KernelIdeal.S64x256
  ∧ IdealRules.bf16_pair.Statement Cert.KernelIdeal.S64x2x256 Cert.KernelIdeal.S64x1x256
  ∧ IdealRules.bf16_pair.Statement Cert.KernelIdeal.S1x2x256 Cert.KernelIdeal.S1x1x256
  ∧ IdealRules.bf16_pair.Statement Cert.KernelIdeal.S16x256 Cert.KernelIdeal.S8x256

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Second_SecondIdeal : Prop :=
  IdealRules.bf16_pair.BufferStatement Cert.SecondIdeal.S64x2x256 Cert.SecondIdeal.S64x1x256
  ∧ IdealRules.bf16_pair.PackStatement Cert.SecondIdeal.S64x256
  ∧ IdealRules.bf16_pair.Statement Cert.SecondIdeal.S64x2x256 Cert.SecondIdeal.S64x1x256
  ∧ IdealRules.bf16_pair.Statement Cert.SecondIdeal.S1x2x256 Cert.SecondIdeal.S1x1x256
  ∧ IdealRules.bf16_pair.Statement Cert.SecondIdeal.S16x256 Cert.SecondIdeal.S8x256

def algebraic_SecondIdeal_SecondReferenceIdeal_pre_finite_second [hSecondIdeal : Cert.SecondIdeal.Facts] [hSecondReferenceIdeal : Cert.SecondReferenceIdeal.Facts] [hPre_finite_second : Cert.Pre_finite_second.Facts] : Prop :=
  ∀ (m : (ℓ : Loc Cert.SecondIdeal.nD Cert.SecondIdeal.τ Cert.SecondIdeal.sig) → Buf (Elt Ideal) ℓ) (g : Dev Cert.SecondIdeal.nD → PrngReg)
    (m' : (ℓ : Loc Cert.SecondReferenceIdeal.nD Cert.SecondReferenceIdeal.τ Cert.SecondReferenceIdeal.sig) → Buf (Elt Ideal) ℓ) (g' : Dev Cert.SecondReferenceIdeal.nD → PrngReg), Pre_SecondIdeal_finite_second m →
    (∀ c : Dev Cert.SecondIdeal.nD,
      m' ((c.tc : Thread Cert.SecondReferenceIdeal.nD Cert.SecondReferenceIdeal.τ).loc Cert.SecondReferenceIdeal.main_arg0) = m ((c.tc : Thread Cert.SecondIdeal.nD Cert.SecondIdeal.τ).loc Cert.SecondIdeal.main_arg0)
      ∧ m' ((c.tc : Thread Cert.SecondReferenceIdeal.nD Cert.SecondReferenceIdeal.τ).loc Cert.SecondReferenceIdeal.main_arg1) = m ((c.tc : Thread Cert.SecondIdeal.nD Cert.SecondIdeal.τ).loc Cert.SecondIdeal.main_arg1)
      ∧ m' ((c.tc : Thread Cert.SecondReferenceIdeal.nD Cert.SecondReferenceIdeal.τ).loc Cert.SecondReferenceIdeal.main_arg2) = m ((c.tc : Thread Cert.SecondIdeal.nD Cert.SecondIdeal.τ).loc Cert.SecondIdeal.main_arg2)
      ∧ m' ((c.tc : Thread Cert.SecondReferenceIdeal.nD Cert.SecondReferenceIdeal.τ).loc Cert.SecondReferenceIdeal.main_arg3) = m ((c.tc : Thread Cert.SecondIdeal.nD Cert.SecondIdeal.τ).loc Cert.SecondIdeal.main_arg3)
      ∧ m' ((c.tc : Thread Cert.SecondReferenceIdeal.nD Cert.SecondReferenceIdeal.τ).loc Cert.SecondReferenceIdeal.main_arg4) = m ((c.tc : Thread Cert.SecondIdeal.nD Cert.SecondIdeal.τ).loc Cert.SecondIdeal.main_arg4)
      ∧ m' ((c.tc : Thread Cert.SecondReferenceIdeal.nD Cert.SecondReferenceIdeal.τ).loc Cert.SecondReferenceIdeal.main_arg5) = m ((c.tc : Thread Cert.SecondIdeal.nD Cert.SecondIdeal.τ).loc Cert.SecondIdeal.main_arg5)) →
    ∃ (v0 : (c : Dev Cert.SecondIdeal.nD) → Buf (Elt Ideal) ((c.tc : Thread Cert.SecondIdeal.nD Cert.SecondIdeal.τ).loc Cert.SecondIdeal.main_v23)),
      θ_run (Cert.SecondIdeal.defs (F := Ideal)) (onTc (τ := Cert.SecondIdeal.τ) (Cert.SecondIdeal.main (F := Ideal))) ⟨m, fun _ => 0, g⟩ (fun r => ∀ c : Dev Cert.SecondIdeal.nD,
          r.2.mem ((c.tc : Thread Cert.SecondIdeal.nD Cert.SecondIdeal.τ).loc Cert.SecondIdeal.main_v23) = v0 c
          ∧ r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
          ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
          ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
          ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
          ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4)
          ∧ r.2.mem ((c.tc : Thread Cert.SecondIdeal.nD Cert.SecondIdeal.τ).loc Cert.SecondIdeal.main_arg5) = m ((c.tc : Thread Cert.SecondIdeal.nD Cert.SecondIdeal.τ).loc Cert.SecondIdeal.main_arg5))
      ∧ θ_run (Cert.SecondReferenceIdeal.defs (F := Ideal)) (onTc (τ := Cert.SecondReferenceIdeal.τ) (Cert.SecondReferenceIdeal.main (F := Ideal))) ⟨m', fun _ => 0, g'⟩ (fun r => ∀ c : Dev Cert.SecondReferenceIdeal.nD,
          r.2.mem ((c.tc : Thread Cert.SecondReferenceIdeal.nD Cert.SecondReferenceIdeal.τ).loc Cert.SecondReferenceIdeal.main_v74) = v0 c
          ∧ r.2.mem ((c.tc : Thread Cert.SecondReferenceIdeal.nD Cert.SecondReferenceIdeal.τ).loc Cert.SecondReferenceIdeal.main_arg0) = m' ((c.tc : Thread Cert.SecondReferenceIdeal.nD Cert.SecondReferenceIdeal.τ).loc Cert.SecondReferenceIdeal.main_arg0)
          ∧ r.2.mem ((c.tc : Thread Cert.SecondReferenceIdeal.nD Cert.SecondReferenceIdeal.τ).loc Cert.SecondReferenceIdeal.main_arg1) = m' ((c.tc : Thread Cert.SecondReferenceIdeal.nD Cert.SecondReferenceIdeal.τ).loc Cert.SecondReferenceIdeal.main_arg1)
          ∧ r.2.mem ((c.tc : Thread Cert.SecondReferenceIdeal.nD Cert.SecondReferenceIdeal.τ).loc Cert.SecondReferenceIdeal.main_arg2) = m' ((c.tc : Thread Cert.SecondReferenceIdeal.nD Cert.SecondReferenceIdeal.τ).loc Cert.SecondReferenceIdeal.main_arg2)
          ∧ r.2.mem ((c.tc : Thread Cert.SecondReferenceIdeal.nD Cert.SecondReferenceIdeal.τ).loc Cert.SecondReferenceIdeal.main_arg3) = m' ((c.tc : Thread Cert.SecondReferenceIdeal.nD Cert.SecondReferenceIdeal.τ).loc Cert.SecondReferenceIdeal.main_arg3)
          ∧ r.2.mem ((c.tc : Thread Cert.SecondReferenceIdeal.nD Cert.SecondReferenceIdeal.τ).loc Cert.SecondReferenceIdeal.main_arg4) = m' ((c.tc : Thread Cert.SecondReferenceIdeal.nD Cert.SecondReferenceIdeal.τ).loc Cert.SecondReferenceIdeal.main_arg4)
          ∧ r.2.mem ((c.tc : Thread Cert.SecondReferenceIdeal.nD Cert.SecondReferenceIdeal.τ).loc Cert.SecondReferenceIdeal.main_arg5) = m' ((c.tc : Thread Cert.SecondReferenceIdeal.nD Cert.SecondReferenceIdeal.τ).loc Cert.SecondReferenceIdeal.main_arg5))

def preserves_Qkv_QkvIdeal : Prop :=
  IdealRules.bf16_pair.BufferStatement Cert.QkvIdeal.S64x2x3072 Cert.QkvIdeal.S64x1x3072
  ∧ IdealRules.bf16_pair.PackStatement Cert.QkvIdeal.S64x3072
  ∧ IdealRules.bf16_pair.Statement Cert.QkvIdeal.S64x2x3072 Cert.QkvIdeal.S64x1x3072
  ∧ IdealRules.bf16_pair.Statement Cert.QkvIdeal.S1x2x3072 Cert.QkvIdeal.S1x1x3072
  ∧ IdealRules.bf16_pair.Statement Cert.QkvIdeal.S16x3072 Cert.QkvIdeal.S8x3072

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)
      ∧ m' ((c.tc : Thread Cert.QkvReferenceIdeal.nD Cert.QkvReferenceIdeal.τ).loc Cert.QkvReferenceIdeal.main_arg4) = m ((c.tc : Thread Cert.QkvIdeal.nD Cert.QkvIdeal.τ).loc Cert.QkvIdeal.main_arg4)
      ∧ m' ((c.tc : Thread Cert.QkvReferenceIdeal.nD Cert.QkvReferenceIdeal.τ).loc Cert.QkvReferenceIdeal.main_arg5) = m ((c.tc : Thread Cert.QkvIdeal.nD Cert.QkvIdeal.τ).loc Cert.QkvIdeal.main_arg5)) →
    ∃ (v0 : (c : Dev Cert.QkvIdeal.nD) → Buf (Elt Ideal) ((c.tc : Thread Cert.QkvIdeal.nD Cert.QkvIdeal.τ).loc Cert.QkvIdeal.main_v6_0)) (v1 : (c : Dev Cert.QkvIdeal.nD) → Buf (Elt Ideal) ((c.tc : Thread Cert.QkvIdeal.nD Cert.QkvIdeal.τ).loc Cert.QkvIdeal.main_v6_1)) (v2 : (c : Dev Cert.QkvIdeal.nD) → Buf (Elt Ideal) ((c.tc : Thread Cert.QkvIdeal.nD Cert.QkvIdeal.τ).loc Cert.QkvIdeal.main_v6_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v6_0) = v0 c
          ∧ r.2.mem ((c.tc : Thread Cert.QkvIdeal.nD Cert.QkvIdeal.τ).loc Cert.QkvIdeal.main_v6_1) = v1 c
          ∧ r.2.mem ((c.tc : Thread Cert.QkvIdeal.nD Cert.QkvIdeal.τ).loc Cert.QkvIdeal.main_v6_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v1_0) = v0 c
          ∧ r.2.mem ((c.tc : Thread Cert.QkvReferenceIdeal.nD Cert.QkvReferenceIdeal.τ).loc Cert.QkvReferenceIdeal.main_v1_1) = v1 c
          ∧ r.2.mem ((c.tc : Thread Cert.QkvReferenceIdeal.nD Cert.QkvReferenceIdeal.τ).loc Cert.QkvReferenceIdeal.main_v1_2) = v2 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4)
          ∧ r.2.mem ((c.tc : Thread Cert.QkvReferenceIdeal.nD Cert.QkvReferenceIdeal.τ).loc Cert.QkvReferenceIdeal.main_arg5) = m' ((c.tc : Thread Cert.QkvReferenceIdeal.nD Cert.QkvReferenceIdeal.τ).loc Cert.QkvReferenceIdeal.main_arg5))

def Claim : Prop :=
  ∃ (hKernel : Cert.Kernel.Facts) (hKernelIdeal : Cert.KernelIdeal.Facts) (hReferenceIdeal : Cert.ReferenceIdeal.Facts) (hSecond : Cert.Second.Facts) (hSecondIdeal : Cert.SecondIdeal.Facts) (hSecondReferenceIdeal : Cert.SecondReferenceIdeal.Facts) (hQkv : Cert.Qkv.Facts) (hQkvIdeal : Cert.QkvIdeal.Facts) (hQkvReferenceIdeal : Cert.QkvReferenceIdeal.Facts) (hPre_finite : Cert.Pre_finite.Facts) (hPre_finite_second : Cert.Pre_finite_second.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Second (hSecond := hSecond)
    ∧ quiescent_SecondIdeal (hSecondIdeal := hSecondIdeal)
    ∧ quiescent_SecondIdeal_pre_finite_second (hSecondIdeal := hSecondIdeal) (hPre_finite_second := hPre_finite_second)
    ∧ quiescent_SecondReferenceIdeal (hSecondReferenceIdeal := hSecondReferenceIdeal)
    ∧ quiescent_SecondReferenceIdeal_pre_finite_second (hSecondReferenceIdeal := hSecondReferenceIdeal) (hPre_finite_second := hPre_finite_second)
    ∧ quiescent_Qkv (hQkv := hQkv)
    ∧ quiescent_QkvIdeal (hQkvIdeal := hQkvIdeal)
    ∧ quiescent_QkvReferenceIdeal (hQkvReferenceIdeal := hQkvReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Second_SecondIdeal
    ∧ algebraic_SecondIdeal_SecondReferenceIdeal_pre_finite_second (hSecondIdeal := hSecondIdeal) (hSecondReferenceIdeal := hSecondReferenceIdeal) (hPre_finite_second := hPre_finite_second)
    ∧ preserves_Qkv_QkvIdeal
    ∧ algebraic_QkvIdeal_QkvReferenceIdeal (hQkvIdeal := hQkvIdeal) (hQkvReferenceIdeal := hQkvReferenceIdeal)
-- ==== Pre_finite.lean ====
abbrev S2688x2048 : Shape := ⟨2, ![2688, 2048]⟩
abbrev S2688 : Shape := ⟨1, ![2688]⟩
abbrev S2x1024x16384 : Shape := ⟨3, ![2, 1024, 16384]⟩
abbrev S2x64x16384 : Shape := ⟨3, ![2, 64, 16384]⟩
abbrev S2x16384 : Shape := ⟨2, ![2, 16384]⟩
abbrev S_ : Shape := ⟨0, ![]⟩
abbrev S1x64x16384 : Shape := ⟨3, ![1, 64, 16384]⟩
abbrev S64x16384 : Shape := ⟨2, ![64, 16384]⟩
abbrev S1x16384 : Shape := ⟨2, ![1, 16384]⟩
abbrev S16384 : Shape := ⟨1, ![16384]⟩

class Facts : Prop where
  bcast_S_S2688 : S_.BroadcastsInDim S2688 (![] : Fin 0 → Fin S2688.rank)
  slices_S2x64x16384_S1x64x16384_0_0_0 : S2x64x16384.Slices ![0, 0, 0] S1x64x16384
  shapeCasts_S1x64x16384_S64x16384 : S1x64x16384.ShapeCasts S64x16384
  bcast_S_S64x16384 : S_.BroadcastsInDim S64x16384 (![] : Fin 0 → Fin S64x16384.rank)
  slices_S2x16384_S1x16384_0_0 : S2x16384.Slices ![0, 0] S1x16384
  shapeCasts_S1x16384_S16384 : S1x16384.ShapeCasts S16384
  bcast_S_S16384 : S_.BroadcastsInDim S16384 (![] : Fin 0 → Fin S16384.rank)

variable [Facts]

def fn {F : FTy → Type} [FloatOps F] (main_arg0 : IVec S2688x2048 8) (main_arg1 : FVec F S2688 .f32) (main_arg2 : IVec S2688 32) (main_arg3 : IVec S2x1024x16384 8) (main_arg4 : FVec F S2x64x16384 .f32) (main_arg5 : FVec F S2x16384 .f32) : IVec S2688 1 × IVec S64x16384 1 × IVec S16384 1 :=
  let main_v0 : FVec F S2688 .f32 := Host.absf main_arg1
  let main_cst : FVec F S_ .f32 := constant S_ .f32 0x7F800000#32
  let main_v1 : FVec F S2688 .f32 := broadcastInDim S2688 ![] bcast_S_S2688 main_cst
  let main_v2 : IVec S2688 1 := cmpf .olt main_v0 main_v1
  let main_v3 : FVec F S1x64x16384 .f32 := (extractStridedSlice S1x64x16384 ![0, 0, 0] · slices_S2x64x16384_S1x64x16384_0_0_0) main_arg4
  let main_v4 : FVec F S64x16384 .f32 := shapeCast S64x16384 main_v3 shapeCasts_S1x64x16384_S64x16384
  let main_v5 : FVec F S64x16384 .f32 := Host.absf main_v4
  let main_cst_0 : FVec F S_ .f32 := constant S_ .f32 0x7F800000#32
  let main_v6 : FVec F S64x16384 .f32 := broadcastInDim S64x16384 ![] bcast_S_S64x16384 main_cst_0
  let main_v7 : IVec S64x16384 1 := cmpf .olt main_v5 main_v6
  let main_v8 : FVec F S1x16384 .f32 := (extractStridedSlice S1x16384 ![0, 0] · slices_S2x16384_S1x16384_0_0) main_arg5
  let main_v9 : FVec F S16384 .f32 := shapeCast S16384 main_v8 shapeCasts_S1x16384_S16384
  let main_v10 : FVec F S16384 .f32 := Host.absf main_v9
  let main_cst_1 : FVec F S_ .f32 := constant S_ .f32 0x7F800000#32
  let main_v11 : FVec F S16384 .f32 := broadcastInDim S16384 ![] bcast_S_S16384 main_cst_1
  let main_v12 : IVec S16384 1 := cmpf .olt main_v10 main_v11
  (main_v2, main_v7, main_v12)
-- ==== Pre_finite_second.lean ====
abbrev S2688x2048 : Shape := ⟨2, ![2688, 2048]⟩
abbrev S2688 : Shape := ⟨1, ![2688]⟩
abbrev S2x1024x16384 : Shape := ⟨3, ![2, 1024, 16384]⟩
abbrev S2x64x16384 : Shape := ⟨3, ![2, 64, 16384]⟩
abbrev S2x16384 : Shape := ⟨2, ![2, 16384]⟩
abbrev S_ : Shape := ⟨0, ![]⟩
abbrev S1x64x16384 : Shape := ⟨3, ![1, 64, 16384]⟩
abbrev S64x16384 : Shape := ⟨2, ![64, 16384]⟩
abbrev S1x16384 : Shape := ⟨2, ![1, 16384]⟩
abbrev S16384 : Shape := ⟨1, ![16384]⟩

class Facts : Prop where
  bcast_S_S2688 : S_.BroadcastsInDim S2688 (![] : Fin 0 → Fin S2688.rank)
  slices_S2x64x16384_S1x64x16384_1_0_0 : S2x64x16384.Slices ![1, 0, 0] S1x64x16384
  shapeCasts_S1x64x16384_S64x16384 : S1x64x16384.ShapeCasts S64x16384
  bcast_S_S64x16384 : S_.BroadcastsInDim S64x16384 (![] : Fin 0 → Fin S64x16384.rank)
  slices_S2x16384_S1x16384_1_0 : S2x16384.Slices ![1, 0] S1x16384
  shapeCasts_S1x16384_S16384 : S1x16384.ShapeCasts S16384
  bcast_S_S16384 : S_.BroadcastsInDim S16384 (![] : Fin 0 → Fin S16384.rank)

variable [Facts]

def fn {F : FTy → Type} [FloatOps F] (main_arg0 : IVec S2688x2048 8) (main_arg1 : FVec F S2688 .f32) (main_arg2 : IVec S2688 32) (main_arg3 : IVec S2x1024x16384 8) (main_arg4 : FVec F S2x64x16384 .f32) (main_arg5 : FVec F S2x16384 .f32) : IVec S2688 1 × IVec S64x16384 1 × IVec S16384 1 :=
  let main_v0 : FVec F S2688 .f32 := Host.absf main_arg1
  let main_cst : FVec F S_ .f32 := constant S_ .f32 0x7F800000#32
  let main_v1 : FVec F S2688 .f32 := broadcastInDim S2688 ![] bcast_S_S2688 main_cst
  let main_v2 : IVec S2688 1 := cmpf .olt main_v0 main_v1
  let main_v3 : FVec F S1x64x16384 .f32 := (extractStridedSlice S1x64x16384 ![1, 0, 0] · slices_S2x64x16384_S1x64x16384_1_0_0) main_arg4
  let main_v4 : FVec F S64x16384 .f32 := shapeCast S64x16384 main_v3 shapeCasts_S1x64x16384_S64x16384
  let main_v5 : FVec F S64x16384 .f32 := Host.absf main_v4
  let main_cst_0 : FVec F S_ .f32 := constant S_ .f32 0x7F800000#32
  let main_v6 : FVec F S64x16384 .f32 := broadcastInDim S64x16384 ![] bcast_S_S64x16384 main_cst_0
  let main_v7 : IVec S64x16384 1 := cmpf .olt main_v5 main_v6
  let main_v8 : FVec F S1x16384 .f32 := (extractStridedSlice S1x16384 ![1, 0] · slices_S2x16384_S1x16384_1_0) main_arg5
  let main_v9 : FVec F S16384 .f32 := shapeCast S16384 main_v8 shapeCasts_S1x16384_S16384
  let main_v10 : FVec F S16384 .f32 := Host.absf main_v9
  let main_cst_1 : FVec F S_ .f32 := constant S_ .f32 0x7F800000#32
  let main_v11 : FVec F S16384 .f32 := broadcastInDim S16384 ![] bcast_S_S16384 main_cst_1
  let main_v12 : IVec S16384 1 := cmpf .olt main_v10 main_v11
  (main_v2, main_v7, main_v12)
-- ==== Kernel.lean ====
abbrev S2688x2048 : Shape := ⟨2, ![2688, 2048]⟩
abbrev S2688 : Shape := ⟨1, ![2688]⟩
abbrev S2x1024x16384 : Shape := ⟨3, ![2, 1024, 16384]⟩
abbrev S2x64x16384 : Shape := ⟨3, ![2, 64, 16384]⟩
abbrev S2x16384 : Shape := ⟨2, ![2, 16384]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S1x256x1x256 : Shape := ⟨4, ![1, 256, 1, 256]⟩
abbrev S3x256x1x256 : Shape := ⟨4, ![3, 256, 1, 256]⟩
abbrev S768x256 : Shape := ⟨2, ![768, 256]⟩
abbrev S2688x1 : Shape := ⟨2, ![2688, 1]⟩
abbrev S2688x128 : Shape := ⟨2, ![2688, 128]⟩
abbrev S2x1x16384 : Shape := ⟨3, ![2, 1, 16384]⟩
abbrev S2688x8192 : Shape := ⟨2, ![2688, 8192]⟩
abbrev S1x1024x256 : Shape := ⟨3, ![1, 1024, 256]⟩
abbrev S1x64x256 : Shape := ⟨3, ![1, 64, 256]⟩
abbrev S1x1x256 : Shape := ⟨3, ![1, 1, 256]⟩
abbrev S2688x256 : Shape := ⟨2, ![2688, 256]⟩
abbrev S2048x512 : Shape := ⟨2, ![2048, 512]⟩
abbrev S64x256 : Shape := ⟨2, ![64, 256]⟩
abbrev S128x2048 : Shape := ⟨2, ![128, 2048]⟩
abbrev S1x32x256 : Shape := ⟨3, ![1, 32, 256]⟩
abbrev S32x256 : Shape := ⟨2, ![32, 256]⟩
abbrev S8x256 : Shape := ⟨2, ![8, 256]⟩
abbrev S16x256 : Shape := ⟨2, ![16, 256]⟩
abbrev S384x2048 : Shape := ⟨2, ![384, 2048]⟩
abbrev S384x512 : Shape := ⟨2, ![384, 512]⟩
abbrev S384x128 : Shape := ⟨2, ![384, 128]⟩
abbrev S384x256 : Shape := ⟨2, ![384, 256]⟩
abbrev S384x768 : Shape := ⟨2, ![384, 768]⟩

abbrev nBuf : Space → Nat
  | .hbm => 33
  | .vmem => 22
  | .smem => 0
  | _ => 0

abbrev bufTy : (tb : Table) → Fin (tcTables nBuf tb) → BufTy
  | .hbm, ⟨0, _⟩ => ⟨S2688x2048, .i8⟩
  | .hbm, ⟨1, _⟩ => ⟨S2688, .f32⟩
  | .hbm, ⟨2, _⟩ => ⟨S2688, .i32⟩
  | .hbm, ⟨3, _⟩ => ⟨S2x1024x16384, .i8⟩
  | .hbm, ⟨4, _⟩ => ⟨S2x64x16384, .f32⟩
  | .hbm, ⟨5, _⟩ => ⟨S2x16384, .f32⟩
  | .hbm, ⟨6, _⟩ => ⟨S256, .i32⟩
  | .hbm, ⟨7, _⟩ => ⟨S256x1, .i32⟩
  | .hbm, ⟨8, _⟩ => ⟨S1x256, .i32⟩
  | .hbm, ⟨9, _⟩ => ⟨S256x256, .i32⟩
  | .hbm, ⟨10, _⟩ => ⟨S256x256, .i32⟩
  | .hbm, ⟨11, _⟩ => ⟨S256x256, .i32⟩
  | .hbm, ⟨12, _⟩ => ⟨S256x256, .i32⟩
  | .hbm, ⟨13, _⟩ => ⟨S_, .i32⟩
  | .hbm, ⟨14, _⟩ => ⟨S256x256, .i32⟩
  | .hbm, ⟨15, _⟩ => ⟨S256x256, .i32⟩
  | .hbm, ⟨16, _⟩ => ⟨S_, .i32⟩
  | .hbm, ⟨17, _⟩ => ⟨S256x256, .i32⟩
  | .hbm, ⟨18, _⟩ => ⟨S256x256, .i32⟩
  | .hbm, ⟨19, _⟩ => ⟨S_, .i32⟩
  | .hbm, ⟨20, _⟩ => ⟨S256x256, .i32⟩
  | .hbm, ⟨21, _⟩ => ⟨S256x256, .i32⟩
  | .hbm, ⟨22, _⟩ => ⟨S256x256, .bf16⟩
  | .hbm, ⟨23, _⟩ => ⟨S1x256x1x256, .bf16⟩
  | .hbm, ⟨24, _⟩ => ⟨S3x256x1x256, .bf16⟩
  | .hbm, ⟨25, _⟩ => ⟨S768x256, .bf16⟩
  | .hbm, ⟨26, _⟩ => ⟨S2688x1, .f32⟩
  | .hbm, ⟨27, _⟩ => ⟨S2688x128, .f32⟩
  | .hbm, ⟨28, _⟩ => ⟨S2688x1, .i32⟩
  | .hbm, ⟨29, _⟩ => ⟨S2688x1, .f32⟩
  | .hbm, ⟨30, _⟩ => ⟨S2688x128, .f32⟩
  | .hbm, ⟨31, _⟩ => ⟨S2x1x16384, .f32⟩
  | .hbm, ⟨32, _⟩ => ⟨S2688x8192, .f32⟩
  | .local _ .vmem, ⟨0, _⟩ => ⟨S2688x2048, .i8⟩
  | .local _ .vmem, ⟨1, _⟩ => ⟨S2688x128, .f32⟩
  | .local _ .vmem, ⟨2, _⟩ => ⟨S2688x128, .f32⟩
  | .local _ .vmem, ⟨3, _⟩ => ⟨S1x1024x256, .i8⟩
  | .local _ .vmem, ⟨4, _⟩ => ⟨S1x1024x256, .i8⟩
  | .local _ .vmem, ⟨5, _⟩ => ⟨S1x1024x256, .i8⟩
  | .local _ .vmem, ⟨6, _⟩ => ⟨S1x1024x256, .i8⟩
  | .local _ .vmem, ⟨7, _⟩ => ⟨S1x64x256, .f32⟩
  | .local _ .vmem, ⟨8, _⟩ => ⟨S1x64x256, .f32⟩
  | .local _ .vmem, ⟨9, _⟩ => ⟨S1x64x256, .f32⟩
  | .local _ .vmem, ⟨10, _⟩ => ⟨S1x64x256, .f32⟩
  | .local _ .vmem, ⟨11, _⟩ => ⟨S1x1x256, .f32⟩
  | .local _ .vmem, ⟨12, _⟩ => ⟨S1x1x256, .f32⟩
  | .local _ .vmem, ⟨13, _⟩ => ⟨S1x1x256, .f32⟩
  | .local _ .vmem, ⟨14, _⟩ => ⟨S1x1x256, .f32⟩
  | .local _ .vmem, ⟨15, _⟩ => ⟨S768x256, .bf16⟩
  | .local _ .vmem, ⟨16, _⟩ => ⟨S2688x256, .f32⟩
  | .local _ .vmem, ⟨17, _⟩ => ⟨S2688x256, .f32⟩
  | .local _ .vmem, ⟨18, _⟩ => ⟨S2688x2048, .bf16⟩
  | .local _ .vmem, ⟨19, _⟩ => ⟨S2048x512, .bf16⟩
  | .local _ .vmem, ⟨20, _⟩ => ⟨S64x256, .i32⟩
  | .local _ .vmem, ⟨21, _⟩ => ⟨S64x256, .i32⟩
  | _, _ => ⟨S2688x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [BitOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_919 : BitVec 32 := 0#32
  let c21_i32 : BitVec 32 := 21#32
  let v2145 : BitVec 32 := Scalar.addi c0_i32_919 c21_i32
  let c1_i32 : BitVec 32 := 1#32
  ⟨c0_i32_919, v2145, c1_i32⟩
def k0_mult1 (k0_t1 : Fin k0_t1_loop.trips) : BitVec 32 :=
  let c0_i32_919 : BitVec 32 := 0#32
  let c1_i32 : BitVec 32 := 1#32
  let arg16 : BitVec 32 := Scf.iv c0_i32_919 c1_i32 k0_t1
  let c128_i32 : BitVec 32 := 128#32
  let v2146 : BitVec 32 := Scalar.muli arg16 c128_i32
  v2146
def k0_off1 (k0_t1 : Fin k0_t1_loop.trips) : Fin 2 → Nat :=
  let c0_i32_919 : BitVec 32 := 0#32
  let c1_i32 : BitVec 32 := 1#32
  let arg16 : BitVec 32 := Scf.iv c0_i32_919 c1_i32 k0_t1
  let c128_i32 : BitVec 32 := 128#32
  let v2146 : BitVec 32 := Scalar.muli arg16 c128_i32
  let v2147 : BitVec 32 := v2146
  let v2148 : Index := Scalar.indexCast v2147
  let c0_921 : Index := 0#32
  ![v2148.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  let c0_i32_1 : BitVec 32 := 0#32
  ![c0_i32.toNat, c0_i32_0.toNat, v0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2688x2048 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2688x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2688x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S768x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2688x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
abbrev S64x2x256 : Shape := ⟨3, ![64, 2, 256]⟩
abbrev S64x1x256 : Shape := ⟨3, ![64, 1, 256]⟩
abbrev S1x2x256 : Shape := ⟨3, ![1, 2, 256]⟩
  | .local _ .vmem, ⟨20, _⟩ => ⟨S64x2x256, .bf16⟩
  | .local _ .vmem, ⟨21, _⟩ => ⟨S64x2x256, .bf16⟩
variable {F : FTy → Type} [FloatOps F]
-- ==== ReferenceIdeal.lean ====
abbrev S2688x2048 : Shape := ⟨2, ![2688, 2048]⟩
abbrev S2688 : Shape := ⟨1, ![2688]⟩
abbrev S2x1024x16384 : Shape := ⟨3, ![2, 1024, 16384]⟩
abbrev S2x64x16384 : Shape := ⟨3, ![2, 64, 16384]⟩
abbrev S2x16384 : Shape := ⟨2, ![2, 16384]⟩
abbrev S1x1024x16384 : Shape := ⟨3, ![1, 1024, 16384]⟩
abbrev S1024x16384 : Shape := ⟨2, ![1024, 16384]⟩
abbrev S1x64x16384 : Shape := ⟨3, ![1, 64, 16384]⟩
abbrev S64x16384 : Shape := ⟨2, ![64, 16384]⟩
abbrev S1x16384 : Shape := ⟨2, ![1, 16384]⟩
abbrev S16384 : Shape := ⟨1, ![16384]⟩
abbrev S_ : Shape := ⟨0, ![]⟩
abbrev S32x16384 : Shape := ⟨2, ![32, 16384]⟩
abbrev S32x32x16384 : Shape := ⟨3, ![32, 32, 16384]⟩
abbrev S32x1x16384 : Shape := ⟨3, ![32, 1, 16384]⟩
abbrev S2688x1024 : Shape := ⟨2, ![2688, 1024]⟩
abbrev S2688x16384 : Shape := ⟨2, ![2688, 16384]⟩
abbrev S2688x1 : Shape := ⟨2, ![2688, 1]⟩
abbrev S2688x8192 : Shape := ⟨2, ![2688, 8192]⟩
abbrev S2688x32x256 : Shape := ⟨3, ![2688, 32, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩

abbrev nBuf : Space → Nat
  | .hbm => 90
  | .vmem => 0
  | .smem => 0
  | _ => 0

abbrev bufTy : (tb : Table) → Fin (tcTables nBuf tb) → BufTy
  | .hbm, ⟨0, _⟩ => ⟨S2688x2048, .i8⟩
  | .hbm, ⟨1, _⟩ => ⟨S2688, .f32⟩
  | .hbm, ⟨2, _⟩ => ⟨S2688, .i32⟩
  | .hbm, ⟨3, _⟩ => ⟨S2x1024x16384, .i8⟩
  | .hbm, ⟨4, _⟩ => ⟨S2x64x16384, .f32⟩
  | .hbm, ⟨5, _⟩ => ⟨S2x16384, .f32⟩
  | .hbm, ⟨6, _⟩ => ⟨S1x1024x16384, .i8⟩
  | .hbm, ⟨7, _⟩ => ⟨S1024x16384, .i8⟩
  | .hbm, ⟨8, _⟩ => ⟨S1x64x16384, .f32⟩
  | .hbm, ⟨9, _⟩ => ⟨S64x16384, .f32⟩
  | .hbm, ⟨10, _⟩ => ⟨S1x16384, .f32⟩
  | .hbm, ⟨11, _⟩ => ⟨S16384, .f32⟩
  | .hbm, ⟨12, _⟩ => ⟨S1024x16384, .i32⟩
  | .hbm, ⟨13, _⟩ => ⟨S_, .i32⟩
  | .hbm, ⟨14, _⟩ => ⟨S1024x16384, .i32⟩
  | .hbm, ⟨15, _⟩ => ⟨S1024x16384, .i32⟩
  | .hbm, ⟨16, _⟩ => ⟨S_, .i32⟩
  | .hbm, ⟨17, _⟩ => ⟨S1024x16384, .i32⟩
  | .hbm, ⟨18, _⟩ => ⟨S1024x16384, .i32⟩
  | .hbm, ⟨19, _⟩ => ⟨S32x16384, .f32⟩
  | .hbm, ⟨20, _⟩ => ⟨S1024x16384, .bf16⟩
  | .hbm, ⟨21, _⟩ => ⟨S32x32x16384, .bf16⟩
  | .hbm, ⟨22, _⟩ => ⟨S32x16384, .bf16⟩
  | .hbm, ⟨23, _⟩ => ⟨S32x1x16384, .bf16⟩
  | .hbm, ⟨24, _⟩ => ⟨S32x32x16384, .bf16⟩
  | .hbm, ⟨25, _⟩ => ⟨S32x32x16384, .bf16⟩
  | .hbm, ⟨26, _⟩ => ⟨S1024x16384, .bf16⟩
  | .hbm, ⟨27, _⟩ => ⟨S_, .i32⟩
  | .hbm, ⟨28, _⟩ => ⟨S1024x16384, .i32⟩
  | .hbm, ⟨29, _⟩ => ⟨S1024x16384, .i32⟩
  | .hbm, ⟨30, _⟩ => ⟨S_, .i32⟩
  | .hbm, ⟨31, _⟩ => ⟨S1024x16384, .i32⟩
  | .hbm, ⟨32, _⟩ => ⟨S1024x16384, .i32⟩
  | .hbm, ⟨33, _⟩ => ⟨S32x16384, .f32⟩
  | .hbm, ⟨34, _⟩ => ⟨S1024x16384, .bf16⟩
  | .hbm, ⟨35, _⟩ => ⟨S32x32x16384, .bf16⟩
  | .hbm, ⟨36, _⟩ => ⟨S32x16384, .bf16⟩
  | .hbm, ⟨37, _⟩ => ⟨S32x1x16384, .bf16⟩
  | .hbm, ⟨38, _⟩ => ⟨S32x32x16384, .bf16⟩
  | .hbm, ⟨39, _⟩ => ⟨S32x32x16384, .bf16⟩
  | .hbm, ⟨40, _⟩ => ⟨S1024x16384, .bf16⟩
  | .hbm, ⟨41, _⟩ => ⟨S2688x2048, .i32⟩
  | .hbm, ⟨42, _⟩ => ⟨S2688x2048, .bf16⟩
  | .hbm, ⟨43, _⟩ => ⟨S2688x1024, .bf16⟩
  | .hbm, ⟨44, _⟩ => ⟨S2688x16384, .f32⟩
  | .hbm, ⟨45, _⟩ => ⟨S2688x1024, .bf16⟩
  | .hbm, ⟨46, _⟩ => ⟨S2688x16384, .f32⟩
  | .hbm, ⟨47, _⟩ => ⟨S2688x16384, .f32⟩
  | .hbm, ⟨48, _⟩ => ⟨S2688x1, .f32⟩
  | .hbm, ⟨49, _⟩ => ⟨S2688, .f32⟩
  | .hbm, ⟨50, _⟩ => ⟨S2688x1, .f32⟩
  | .hbm, ⟨51, _⟩ => ⟨S1x16384, .f32⟩
  | .hbm, ⟨52, _⟩ => ⟨S2688x16384, .f32⟩
  | .hbm, ⟨53, _⟩ => ⟨S2688x16384, .f32⟩
  | .hbm, ⟨54, _⟩ => ⟨S2688x16384, .f32⟩
  | .hbm, ⟨55, _⟩ => ⟨S2688x16384, .f32⟩
  | .hbm, ⟨56, _⟩ => ⟨S2688x16384, .f32⟩
  | .hbm, ⟨57, _⟩ => ⟨S2688x16384, .f32⟩
  | .hbm, ⟨58, _⟩ => ⟨S2688x8192, .f32⟩
  | .hbm, ⟨59, _⟩ => ⟨S2688x8192, .f32⟩
  | .hbm, ⟨60, _⟩ => ⟨S2688x8192, .f32⟩
  | .hbm, ⟨61, _⟩ => ⟨S2688x8192, .f32⟩
  | .hbm, ⟨62, _⟩ => ⟨S_, .f32⟩
  | .hbm, ⟨63, _⟩ => ⟨S2688x8192, .f32⟩
  | .hbm, ⟨64, _⟩ => ⟨S2688x8192, .f32⟩
  | .hbm, ⟨65, _⟩ => ⟨S_, .f32⟩
  | .hbm, ⟨66, _⟩ => ⟨S2688x8192, .f32⟩
  | .hbm, ⟨67, _⟩ => ⟨S2688x8192, .f32⟩
  | .hbm, ⟨68, _⟩ => ⟨S2688x8192, .f32⟩
  | .hbm, ⟨69, _⟩ => ⟨S2688x8192, .f32⟩
  | .hbm, ⟨70, _⟩ => ⟨S2688x32x256, .f32⟩
  | .hbm, ⟨71, _⟩ => ⟨S256, .i32⟩
  | .hbm, ⟨72, _⟩ => ⟨S256x1, .i32⟩
  | .hbm, ⟨73, _⟩ => ⟨S1x256, .i32⟩
  | .hbm, ⟨74, _⟩ => ⟨S256x256, .i32⟩
  | .hbm, ⟨75, _⟩ => ⟨S256x256, .i32⟩
  | .hbm, ⟨76, _⟩ => ⟨S256x256, .i32⟩
  | .hbm, ⟨77, _⟩ => ⟨S256x256, .i32⟩
  | .hbm, ⟨78, _⟩ => ⟨S_, .i32⟩
  | .hbm, ⟨79, _⟩ => ⟨S256x256, .i32⟩
  | .hbm, ⟨80, _⟩ => ⟨S256x256, .i32⟩
  | .hbm, ⟨81, _⟩ => ⟨S_, .i32⟩
  | .hbm, ⟨82, _⟩ => ⟨S256x256, .i32⟩
  | .hbm, ⟨83, _⟩ => ⟨S256x256, .i32⟩
  | .hbm, ⟨84, _⟩ => ⟨S_, .i32⟩
  | .hbm, ⟨85, _⟩ => ⟨S256x256, .i32⟩
  | .hbm, ⟨86, _⟩ => ⟨S256x256, .i32⟩
  | .hbm, ⟨87, _⟩ => ⟨S256x256, .f32⟩
  | .hbm, ⟨88, _⟩ => ⟨S2688x32x256, .f32⟩
  | .hbm, ⟨89, _⟩ => ⟨S2688x8192, .f32⟩
  | _, _ => ⟨S2688x2048, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst : Ref sig .tc := ⟨.hbm, 62, rfl⟩
abbrev main_v52 : Ref sig .tc := ⟨.hbm, 63, rfl⟩
abbrev main_v53 : Ref sig .tc := ⟨.hbm, 64, rfl⟩
abbrev main_cst_3 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_c_4 : Ref sig .tc := ⟨.hbm, 78, rfl⟩
abbrev main_v66 : Ref sig .tc := ⟨.hbm, 79, rfl⟩
abbrev main_v67 : Ref sig .tc := ⟨.hbm, 80, rfl⟩
abbrev main_c_5 : Ref sig .tc := ⟨.hbm, 81, rfl⟩
abbrev main_v68 : Ref sig .tc := ⟨.hbm, 82, rfl⟩
abbrev main_v69 : Ref sig .tc := ⟨.hbm, 83, rfl⟩
abbrev main_c_6 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩

abbrev nD : Nat := 1
abbrev τ : Topo := Topo.v7x

variable {F : FTy → Type} [FloatOps F]
-- ==== Second.lean ====
abbrev S2688x2048 : Shape := ⟨2, ![2688, 2048]⟩
abbrev S2688 : Shape := ⟨1, ![2688]⟩
abbrev S2x1024x16384 : Shape := ⟨3, ![2, 1024, 16384]⟩
abbrev S2x64x16384 : Shape := ⟨3, ![2, 64, 16384]⟩
abbrev S2x16384 : Shape := ⟨2, ![2, 16384]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S1x256x1x256 : Shape := ⟨4, ![1, 256, 1, 256]⟩
abbrev S3x256x1x256 : Shape := ⟨4, ![3, 256, 1, 256]⟩
abbrev S768x256 : Shape := ⟨2, ![768, 256]⟩
abbrev S2688x1 : Shape := ⟨2, ![2688, 1]⟩
abbrev S2688x128 : Shape := ⟨2, ![2688, 128]⟩
abbrev S2x1x16384 : Shape := ⟨3, ![2, 1, 16384]⟩
abbrev S2688x8192 : Shape := ⟨2, ![2688, 8192]⟩
abbrev S1x1024x256 : Shape := ⟨3, ![1, 1024, 256]⟩
abbrev S1x64x256 : Shape := ⟨3, ![1, 64, 256]⟩
abbrev S1x1x256 : Shape := ⟨3, ![1, 1, 256]⟩
abbrev S2688x256 : Shape := ⟨2, ![2688, 256]⟩
abbrev S2048x512 : Shape := ⟨2, ![2048, 512]⟩
abbrev S64x256 : Shape := ⟨2, ![64, 256]⟩
abbrev S128x2048 : Shape := ⟨2, ![128, 2048]⟩
abbrev S1x32x256 : Shape := ⟨3, ![1, 32, 256]⟩
abbrev S32x256 : Shape := ⟨2, ![32, 256]⟩
abbrev S8x256 : Shape := ⟨2, ![8, 256]⟩
abbrev S16x256 : Shape := ⟨2, ![16, 256]⟩
abbrev S384x2048 : Shape := ⟨2, ![384, 2048]⟩
abbrev S384x512 : Shape := ⟨2, ![384, 512]⟩
abbrev S384x128 : Shape := ⟨2, ![384, 128]⟩
abbrev S384x256 : Shape := ⟨2, ![384, 256]⟩
abbrev S384x768 : Shape := ⟨2, ![384, 768]⟩

abbrev nBuf : Space → Nat
  | .hbm => 33
  | .vmem => 22
  | .smem => 0
  | _ => 0

abbrev bufTy : (tb : Table) → Fin (tcTables nBuf tb) → BufTy
  | .hbm, ⟨0, _⟩ => ⟨S2688x2048, .i8⟩
  | .hbm, ⟨1, _⟩ => ⟨S2688, .f32⟩
  | .hbm, ⟨2, _⟩ => ⟨S2688, .i32⟩
  | .hbm, ⟨3, _⟩ => ⟨S2x1024x16384, .i8⟩
  | .hbm, ⟨4, _⟩ => ⟨S2x64x16384, .f32⟩
  | .hbm, ⟨5, _⟩ => ⟨S2x16384, .f32⟩
  | .hbm, ⟨6, _⟩ => ⟨S256, .i32⟩
  | .hbm, ⟨7, _⟩ => ⟨S256x1, .i32⟩
  | .hbm, ⟨8, _⟩ => ⟨S1x256, .i32⟩
  | .hbm, ⟨9, _⟩ => ⟨S256x256, .i32⟩
  | .hbm, ⟨10, _⟩ => ⟨S256x256, .i32⟩
  | .hbm, ⟨11, _⟩ => ⟨S256x256, .i32⟩
  | .hbm, ⟨12, _⟩ => ⟨S256x256, .i32⟩
  | .hbm, ⟨13, _⟩ => ⟨S_, .i32⟩
  | .hbm, ⟨14, _⟩ => ⟨S256x256, .i32⟩
  | .hbm, ⟨15, _⟩ => ⟨S256x256, .i32⟩
  | .hbm, ⟨16, _⟩ => ⟨S_, .i32⟩
  | .hbm, ⟨17, _⟩ => ⟨S256x256, .i32⟩
  | .hbm, ⟨18, _⟩ => ⟨S256x256, .i32⟩
  | .hbm, ⟨19, _⟩ => ⟨S_, .i32⟩
  | .hbm, ⟨20, _⟩ => ⟨S256x256, .i32⟩
  | .hbm, ⟨21, _⟩ => ⟨S256x256, .i32⟩
  | .hbm, ⟨22, _⟩ => ⟨S256x256, .bf16⟩
  | .hbm, ⟨23, _⟩ => ⟨S1x256x1x256, .bf16⟩
  | .hbm, ⟨24, _⟩ => ⟨S3x256x1x256, .bf16⟩
  | .hbm, ⟨25, _⟩ => ⟨S768x256, .bf16⟩
  | .hbm, ⟨26, _⟩ => ⟨S2688x1, .f32⟩
  | .hbm, ⟨27, _⟩ => ⟨S2688x128, .f32⟩
  | .hbm, ⟨28, _⟩ => ⟨S2688x1, .i32⟩
  | .hbm, ⟨29, _⟩ => ⟨S2688x1, .f32⟩
  | .hbm, ⟨30, _⟩ => ⟨S2688x128, .f32⟩
  | .hbm, ⟨31, _⟩ => ⟨S2x1x16384, .f32⟩
  | .hbm, ⟨32, _⟩ => ⟨S2688x8192, .f32⟩
  | .local _ .vmem, ⟨0, _⟩ => ⟨S2688x2048, .i8⟩
  | .local _ .vmem, ⟨1, _⟩ => ⟨S2688x128, .f32⟩
  | .local _ .vmem, ⟨2, _⟩ => ⟨S2688x128, .f32⟩
  | .local _ .vmem, ⟨3, _⟩ => ⟨S1x1024x256, .i8⟩
  | .local _ .vmem, ⟨4, _⟩ => ⟨S1x1024x256, .i8⟩
  | .local _ .vmem, ⟨5, _⟩ => ⟨S1x1024x256, .i8⟩
  | .local _ .vmem, ⟨6, _⟩ => ⟨S1x1024x256, .i8⟩
  | .local _ .vmem, ⟨7, _⟩ => ⟨S1x64x256, .f32⟩
  | .local _ .vmem, ⟨8, _⟩ => ⟨S1x64x256, .f32⟩
  | .local _ .vmem, ⟨9, _⟩ => ⟨S1x64x256, .f32⟩
  | .local _ .vmem, ⟨10, _⟩ => ⟨S1x64x256, .f32⟩
  | .local _ .vmem, ⟨11, _⟩ => ⟨S1x1x256, .f32⟩
  | .local _ .vmem, ⟨12, _⟩ => ⟨S1x1x256, .f32⟩
  | .local _ .vmem, ⟨13, _⟩ => ⟨S1x1x256, .f32⟩
  | .local _ .vmem, ⟨14, _⟩ => ⟨S1x1x256, .f32⟩
  | .local _ .vmem, ⟨15, _⟩ => ⟨S768x256, .bf16⟩
  | .local _ .vmem, ⟨16, _⟩ => ⟨S2688x256, .f32⟩
  | .local _ .vmem, ⟨17, _⟩ => ⟨S2688x256, .f32⟩
  | .local _ .vmem, ⟨18, _⟩ => ⟨S2688x2048, .bf16⟩
  | .local _ .vmem, ⟨19, _⟩ => ⟨S2048x512, .bf16⟩
  | .local _ .vmem, ⟨20, _⟩ => ⟨S64x256, .i32⟩
  | .local _ .vmem, ⟨21, _⟩ => ⟨S64x256, .i32⟩
  | _, _ => ⟨S2688x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [BitOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_919 : BitVec 32 := 0#32
  let c21_i32 : BitVec 32 := 21#32
  let v2145 : BitVec 32 := Scalar.addi c0_i32_919 c21_i32
  let c1_i32 : BitVec 32 := 1#32
  ⟨c0_i32_919, v2145, c1_i32⟩
def k0_mult1 (k0_t1 : Fin k0_t1_loop.trips) : BitVec 32 :=
  let c0_i32_919 : BitVec 32 := 0#32
  let c1_i32 : BitVec 32 := 1#32
  let arg16 : BitVec 32 := Scf.iv c0_i32_919 c1_i32 k0_t1
  let c128_i32 : BitVec 32 := 128#32
  let v2146 : BitVec 32 := Scalar.muli arg16 c128_i32
  v2146
def k0_off1 (k0_t1 : Fin k0_t1_loop.trips) : Fin 2 → Nat :=
  let c0_i32_919 : BitVec 32 := 0#32
  let c1_i32 : BitVec 32 := 1#32
  let arg16 : BitVec 32 := Scf.iv c0_i32_919 c1_i32 k0_t1
  let c128_i32 : BitVec 32 := 128#32
  let v2146 : BitVec 32 := Scalar.muli arg16 c128_i32
  let v2147 : BitVec 32 := v2146
  let v2148 : Index := Scalar.indexCast v2147
  let c0_921 : Index := 0#32
  ![v2148.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_4 (i : grid0.Coords) : Fin 3 → Nat :=
  let arg0 : BitVec 32 := BitVec.ofNat 32 (i 0).val
  let c32_i32 : BitVec 32 := 32#32
  let v0 : BitVec 32 := Scalar.addi c32_i32 arg0
  let c1_i32 : BitVec 32 := 1#32
  let c0_i32 : BitVec 32 := 0#32
  let c0_i32_0 : BitVec 32 := 0#32
  ![c1_i32.toNat, c0_i32.toNat, v0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_6 (i : grid0.Coords) : Fin 3 → Nat :=
  let arg0 : BitVec 32 := BitVec.ofNat 32 (i 0).val
  let c32_i32 : BitVec 32 := 32#32
  let v0 : BitVec 32 := Scalar.addi c32_i32 arg0
  let c1_i32 : BitVec 32 := 1#32
  let c0_i32 : BitVec 32 := 0#32
  let c0_i32_0 : BitVec 32 := 0#32
  ![c1_i32.toNat, c0_i32.toNat, v0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_8 (i : grid0.Coords) : Fin 3 → Nat :=
  let arg0 : BitVec 32 := BitVec.ofNat 32 (i 0).val
  let c32_i32 : BitVec 32 := 32#32
  let v0 : BitVec 32 := Scalar.addi c32_i32 arg0
  let c1_i32 : BitVec 32 := 1#32
  let c0_i32 : BitVec 32 := 0#32
  let c0_i32_0 : BitVec 32 := 0#32
  ![c1_i32.toNat, c0_i32.toNat, v0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2688x2048 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2688x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2688x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S768x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2688x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== SecondIdeal.lean ====
abbrev S64x2x256 : Shape := ⟨3, ![64, 2, 256]⟩
abbrev S64x1x256 : Shape := ⟨3, ![64, 1, 256]⟩
abbrev S1x2x256 : Shape := ⟨3, ![1, 2, 256]⟩
  | .local _ .vmem, ⟨20, _⟩ => ⟨S64x2x256, .bf16⟩
  | .local _ .vmem, ⟨21, _⟩ => ⟨S64x2x256, .bf16⟩
variable {F : FTy → Type} [FloatOps F]
-- ==== SecondReferenceIdeal.lean ====
abbrev S2688x2048 : Shape := ⟨2, ![2688, 2048]⟩
abbrev S2688 : Shape := ⟨1, ![2688]⟩
abbrev S2x1024x16384 : Shape := ⟨3, ![2, 1024, 16384]⟩
abbrev S2x64x16384 : Shape := ⟨3, ![2, 64, 16384]⟩
abbrev S2x16384 : Shape := ⟨2, ![2, 16384]⟩
abbrev S1x1024x16384 : Shape := ⟨3, ![1, 1024, 16384]⟩
abbrev S1024x16384 : Shape := ⟨2, ![1024, 16384]⟩
abbrev S1x64x16384 : Shape := ⟨3, ![1, 64, 16384]⟩
abbrev S64x16384 : Shape := ⟨2, ![64, 16384]⟩
abbrev S1x16384 : Shape := ⟨2, ![1, 16384]⟩
abbrev S16384 : Shape := ⟨1, ![16384]⟩
abbrev S_ : Shape := ⟨0, ![]⟩
abbrev S32x16384 : Shape := ⟨2, ![32, 16384]⟩
abbrev S32x32x16384 : Shape := ⟨3, ![32, 32, 16384]⟩
abbrev S32x1x16384 : Shape := ⟨3, ![32, 1, 16384]⟩
abbrev S2688x1024 : Shape := ⟨2, ![2688, 1024]⟩
abbrev S2688x16384 : Shape := ⟨2, ![2688, 16384]⟩
abbrev S2688x1 : Shape := ⟨2, ![2688, 1]⟩
abbrev S2688x8192 : Shape := ⟨2, ![2688, 8192]⟩
abbrev S2688x32x256 : Shape := ⟨3, ![2688, 32, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩

abbrev nBuf : Space → Nat
  | .hbm => 90
  | .vmem => 0
  | .smem => 0
  | _ => 0

abbrev bufTy : (tb : Table) → Fin (tcTables nBuf tb) → BufTy
  | .hbm, ⟨0, _⟩ => ⟨S2688x2048, .i8⟩
  | .hbm, ⟨1, _⟩ => ⟨S2688, .f32⟩
  | .hbm, ⟨2, _⟩ => ⟨S2688, .i32⟩
  | .hbm, ⟨3, _⟩ => ⟨S2x1024x16384, .i8⟩
  | .hbm, ⟨4, _⟩ => ⟨S2x64x16384, .f32⟩
  | .hbm, ⟨5, _⟩ => ⟨S2x16384, .f32⟩
  | .hbm, ⟨6, _⟩ => ⟨S1x1024x16384, .i8⟩
  | .hbm, ⟨7, _⟩ => ⟨S1024x16384, .i8⟩
  | .hbm, ⟨8, _⟩ => ⟨S1x64x16384, .f32⟩
  | .hbm, ⟨9, _⟩ => ⟨S64x16384, .f32⟩
  | .hbm, ⟨10, _⟩ => ⟨S1x16384, .f32⟩
  | .hbm, ⟨11, _⟩ => ⟨S16384, .f32⟩
  | .hbm, ⟨12, _⟩ => ⟨S1024x16384, .i32⟩
  | .hbm, ⟨13, _⟩ => ⟨S_, .i32⟩
  | .hbm, ⟨14, _⟩ => ⟨S1024x16384, .i32⟩
  | .hbm, ⟨15, _⟩ => ⟨S1024x16384, .i32⟩
  | .hbm, ⟨16, _⟩ => ⟨S_, .i32⟩
  | .hbm, ⟨17, _⟩ => ⟨S1024x16384, .i32⟩
  | .hbm, ⟨18, _⟩ => ⟨S1024x16384, .i32⟩
  | .hbm, ⟨19, _⟩ => ⟨S32x16384, .f32⟩
  | .hbm, ⟨20, _⟩ => ⟨S1024x16384, .bf16⟩
  | .hbm, ⟨21, _⟩ => ⟨S32x32x16384, .bf16⟩
  | .hbm, ⟨22, _⟩ => ⟨S32x16384, .bf16⟩
  | .hbm, ⟨23, _⟩ => ⟨S32x1x16384, .bf16⟩
  | .hbm, ⟨24, _⟩ => ⟨S32x32x16384, .bf16⟩
  | .hbm, ⟨25, _⟩ => ⟨S32x32x16384, .bf16⟩
  | .hbm, ⟨26, _⟩ => ⟨S1024x16384, .bf16⟩
  | .hbm, ⟨27, _⟩ => ⟨S_, .i32⟩
  | .hbm, ⟨28, _⟩ => ⟨S1024x16384, .i32⟩
  | .hbm, ⟨29, _⟩ => ⟨S1024x16384, .i32⟩
  | .hbm, ⟨30, _⟩ => ⟨S_, .i32⟩
  | .hbm, ⟨31, _⟩ => ⟨S1024x16384, .i32⟩
  | .hbm, ⟨32, _⟩ => ⟨S1024x16384, .i32⟩
  | .hbm, ⟨33, _⟩ => ⟨S32x16384, .f32⟩
  | .hbm, ⟨34, _⟩ => ⟨S1024x16384, .bf16⟩
  | .hbm, ⟨35, _⟩ => ⟨S32x32x16384, .bf16⟩
  | .hbm, ⟨36, _⟩ => ⟨S32x16384, .bf16⟩
  | .hbm, ⟨37, _⟩ => ⟨S32x1x16384, .bf16⟩
  | .hbm, ⟨38, _⟩ => ⟨S32x32x16384, .bf16⟩
  | .hbm, ⟨39, _⟩ => ⟨S32x32x16384, .bf16⟩
  | .hbm, ⟨40, _⟩ => ⟨S1024x16384, .bf16⟩
  | .hbm, ⟨41, _⟩ => ⟨S2688x2048, .i32⟩
  | .hbm, ⟨42, _⟩ => ⟨S2688x2048, .bf16⟩
  | .hbm, ⟨43, _⟩ => ⟨S2688x1024, .bf16⟩
  | .hbm, ⟨44, _⟩ => ⟨S2688x16384, .f32⟩
  | .hbm, ⟨45, _⟩ => ⟨S2688x1024, .bf16⟩
  | .hbm, ⟨46, _⟩ => ⟨S2688x16384, .f32⟩
  | .hbm, ⟨47, _⟩ => ⟨S2688x16384, .f32⟩
  | .hbm, ⟨48, _⟩ => ⟨S2688x1, .f32⟩
  | .hbm, ⟨49, _⟩ => ⟨S2688, .f32⟩
  | .hbm, ⟨50, _⟩ => ⟨S2688x1, .f32⟩
  | .hbm, ⟨51, _⟩ => ⟨S1x16384, .f32⟩
  | .hbm, ⟨52, _⟩ => ⟨S2688x16384, .f32⟩
  | .hbm, ⟨53, _⟩ => ⟨S2688x16384, .f32⟩
  | .hbm, ⟨54, _⟩ => ⟨S2688x16384, .f32⟩
  | .hbm, ⟨55, _⟩ => ⟨S2688x16384, .f32⟩
  | .hbm, ⟨56, _⟩ => ⟨S2688x16384, .f32⟩
  | .hbm, ⟨57, _⟩ => ⟨S2688x16384, .f32⟩
  | .hbm, ⟨58, _⟩ => ⟨S2688x8192, .f32⟩
  | .hbm, ⟨59, _⟩ => ⟨S2688x8192, .f32⟩
  | .hbm, ⟨60, _⟩ => ⟨S2688x8192, .f32⟩
  | .hbm, ⟨61, _⟩ => ⟨S2688x8192, .f32⟩
  | .hbm, ⟨62, _⟩ => ⟨S_, .f32⟩
  | .hbm, ⟨63, _⟩ => ⟨S2688x8192, .f32⟩
  | .hbm, ⟨64, _⟩ => ⟨S2688x8192, .f32⟩
  | .hbm, ⟨65, _⟩ => ⟨S_, .f32⟩
  | .hbm, ⟨66, _⟩ => ⟨S2688x8192, .f32⟩
  | .hbm, ⟨67, _⟩ => ⟨S2688x8192, .f32⟩
  | .hbm, ⟨68, _⟩ => ⟨S2688x8192, .f32⟩
  | .hbm, ⟨69, _⟩ => ⟨S2688x8192, .f32⟩
  | .hbm, ⟨70, _⟩ => ⟨S2688x32x256, .f32⟩
  | .hbm, ⟨71, _⟩ => ⟨S256, .i32⟩
  | .hbm, ⟨72, _⟩ => ⟨S256x1, .i32⟩
  | .hbm, ⟨73, _⟩ => ⟨S1x256, .i32⟩
  | .hbm, ⟨74, _⟩ => ⟨S256x256, .i32⟩
  | .hbm, ⟨75, _⟩ => ⟨S256x256, .i32⟩
  | .hbm, ⟨76, _⟩ => ⟨S256x256, .i32⟩
  | .hbm, ⟨77, _⟩ => ⟨S256x256, .i32⟩
  | .hbm, ⟨78, _⟩ => ⟨S_, .i32⟩
  | .hbm, ⟨79, _⟩ => ⟨S256x256, .i32⟩
  | .hbm, ⟨80, _⟩ => ⟨S256x256, .i32⟩
  | .hbm, ⟨81, _⟩ => ⟨S_, .i32⟩
  | .hbm, ⟨82, _⟩ => ⟨S256x256, .i32⟩
  | .hbm, ⟨83, _⟩ => ⟨S256x256, .i32⟩
  | .hbm, ⟨84, _⟩ => ⟨S_, .i32⟩
  | .hbm, ⟨85, _⟩ => ⟨S256x256, .i32⟩
  | .hbm, ⟨86, _⟩ => ⟨S256x256, .i32⟩
  | .hbm, ⟨87, _⟩ => ⟨S256x256, .f32⟩
  | .hbm, ⟨88, _⟩ => ⟨S2688x32x256, .f32⟩
  | .hbm, ⟨89, _⟩ => ⟨S2688x8192, .f32⟩
  | _, _ => ⟨S2688x2048, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst : Ref sig .tc := ⟨.hbm, 62, rfl⟩
abbrev main_v52 : Ref sig .tc := ⟨.hbm, 63, rfl⟩
abbrev main_v53 : Ref sig .tc := ⟨.hbm, 64, rfl⟩
abbrev main_cst_3 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_c_4 : Ref sig .tc := ⟨.hbm, 78, rfl⟩
abbrev main_v66 : Ref sig .tc := ⟨.hbm, 79, rfl⟩
abbrev main_v67 : Ref sig .tc := ⟨.hbm, 80, rfl⟩
abbrev main_c_5 : Ref sig .tc := ⟨.hbm, 81, rfl⟩
abbrev main_v68 : Ref sig .tc := ⟨.hbm, 82, rfl⟩
abbrev main_v69 : Ref sig .tc := ⟨.hbm, 83, rfl⟩
abbrev main_c_6 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩

abbrev nD : Nat := 1
abbrev τ : Topo := Topo.v7x

variable {F : FTy → Type} [FloatOps F]
-- ==== Qkv.lean ====
abbrev S6x448x2048 : Shape := ⟨3, ![6, 448, 2048]⟩
abbrev S6x448x32 : Shape := ⟨3, ![6, 448, 32]⟩
abbrev S2x1024x3072 : Shape := ⟨3, ![2, 1024, 3072]⟩
abbrev S2x64x3072 : Shape := ⟨3, ![2, 64, 3072]⟩
abbrev S2x3072 : Shape := ⟨2, ![2, 3072]⟩
abbrev S_ : Shape := ⟨0, ![]⟩
abbrev S2x6x448x512 : Shape := ⟨4, ![2, 6, 448, 512]⟩
abbrev S2688x2048 : Shape := ⟨2, ![2688, 2048]⟩
abbrev S2x1x3072 : Shape := ⟨3, ![2, 1, 3072]⟩
abbrev S6x32x448 : Shape := ⟨3, ![6, 32, 448]⟩
abbrev S6x1x448 : Shape := ⟨3, ![6, 1, 448]⟩
abbrev S6x8x7x64x256 : Shape := ⟨5, ![6, 8, 7, 64, 256]⟩
abbrev S6x8x448 : Shape := ⟨3, ![6, 8, 448]⟩
abbrev S6x512x448 : Shape := ⟨3, ![6, 512, 448]⟩
abbrev S448x2048 : Shape := ⟨2, ![448, 2048]⟩
abbrev S1x1024x3072 : Shape := ⟨3, ![1, 1024, 3072]⟩
abbrev S1x64x3072 : Shape := ⟨3, ![1, 64, 3072]⟩
abbrev S1x1x3072 : Shape := ⟨3, ![1, 1, 3072]⟩
abbrev S1x32x448 : Shape := ⟨3, ![1, 32, 448]⟩
abbrev S1x1x448 : Shape := ⟨3, ![1, 1, 448]⟩
abbrev S1x8x7x64x256 : Shape := ⟨5, ![1, 8, 7, 64, 256]⟩
abbrev S1x1x448x512 : Shape := ⟨4, ![1, 1, 448, 512]⟩
abbrev S1x8x448 : Shape := ⟨3, ![1, 8, 448]⟩
abbrev S1x512x448 : Shape := ⟨3, ![1, 512, 448]⟩
abbrev S2048x3072 : Shape := ⟨2, ![2048, 3072]⟩
abbrev S64x3072 : Shape := ⟨2, ![64, 3072]⟩
abbrev S1x32x3072 : Shape := ⟨3, ![1, 32, 3072]⟩
abbrev S32x3072 : Shape := ⟨2, ![32, 3072]⟩
abbrev S8x3072 : Shape := ⟨2, ![8, 3072]⟩
abbrev S1x3072 : Shape := ⟨2, ![1, 3072]⟩
abbrev S16x3072 : Shape := ⟨2, ![16, 3072]⟩
abbrev S448 : Shape := ⟨1, ![448]⟩
abbrev S448x1 : Shape := ⟨2, ![448, 1]⟩
abbrev S448x128 : Shape := ⟨2, ![448, 128]⟩
abbrev S128x448 : Shape := ⟨2, ![128, 448]⟩
abbrev S1x448 : Shape := ⟨2, ![1, 448]⟩
abbrev S32x448 : Shape := ⟨2, ![32, 448]⟩
abbrev S64x128 : Shape := ⟨2, ![64, 128]⟩
abbrev S2048x256 : Shape := ⟨2, ![2048, 256]⟩
abbrev S448x256 : Shape := ⟨2, ![448, 256]⟩
abbrev S1x1x256 : Shape := ⟨3, ![1, 1, 256]⟩
abbrev S1x256 : Shape := ⟨2, ![1, 256]⟩
abbrev S256x448 : Shape := ⟨2, ![256, 448]⟩
abbrev S64x448 : Shape := ⟨2, ![64, 448]⟩
abbrev S64x64 : Shape := ⟨2, ![64, 64]⟩
abbrev S64x512 : Shape := ⟨2, ![64, 512]⟩
abbrev S1x1x1x64x128 : Shape := ⟨5, ![1, 1, 1, 64, 128]⟩
abbrev S1x1x448x256 : Shape := ⟨4, ![1, 1, 448, 256]⟩
abbrev S8x448 : Shape := ⟨2, ![8, 448]⟩
abbrev S1x256x448 : Shape := ⟨3, ![1, 256, 448]⟩

abbrev nBuf : Space → Nat
  | .hbm => 23
  | .vmem => 30
  | .smem => 0
  | _ => 0

abbrev bufTy : (tb : Table) → Fin (tcTables nBuf tb) → BufTy
  | .hbm, ⟨0, _⟩ => ⟨S6x448x2048, .bf16⟩
  | .hbm, ⟨1, _⟩ => ⟨S6x448x32, .f32⟩
  | .hbm, ⟨2, _⟩ => ⟨S6x448x32, .f32⟩
  | .hbm, ⟨3, _⟩ => ⟨S2x1024x3072, .i8⟩
  | .hbm, ⟨4, _⟩ => ⟨S2x64x3072, .f32⟩
  | .hbm, ⟨5, _⟩ => ⟨S2x3072, .f32⟩
  | .hbm, ⟨6, _⟩ => ⟨S_, .i8⟩
  | .hbm, ⟨7, _⟩ => ⟨S2x6x448x512, .i8⟩
  | .hbm, ⟨8, _⟩ => ⟨S_, .i8⟩
  | .hbm, ⟨9, _⟩ => ⟨S2x6x448x512, .i8⟩
  | .hbm, ⟨10, _⟩ => ⟨S2688x2048, .bf16⟩
  | .hbm, ⟨11, _⟩ => ⟨S2x1x3072, .f32⟩
  | .hbm, ⟨12, _⟩ => ⟨S6x32x448, .f32⟩
  | .hbm, ⟨13, _⟩ => ⟨S6x32x448, .f32⟩
  | .hbm, ⟨14, _⟩ => ⟨S2688x2048, .i8⟩
  | .hbm, ⟨15, _⟩ => ⟨S6x1x448, .f32⟩
  | .hbm, ⟨16, _⟩ => ⟨S6x1x448, .i32⟩
  | .hbm, ⟨17, _⟩ => ⟨S6x8x7x64x256, .bf16⟩
  | .hbm, ⟨18, _⟩ => ⟨S2x6x448x512, .i8⟩
  | .hbm, ⟨19, _⟩ => ⟨S2x6x448x512, .i8⟩
  | .hbm, ⟨20, _⟩ => ⟨S6x8x448, .f32⟩
  | .hbm, ⟨21, _⟩ => ⟨S6x8x448, .f32⟩
  | .hbm, ⟨22, _⟩ => ⟨S6x512x448, .bf16⟩
  | .local _ .vmem, ⟨0, _⟩ => ⟨S448x2048, .bf16⟩
  | .local _ .vmem, ⟨1, _⟩ => ⟨S448x2048, .bf16⟩
  | .local _ .vmem, ⟨2, _⟩ => ⟨S1x1024x3072, .i8⟩
  | .local _ .vmem, ⟨3, _⟩ => ⟨S1x64x3072, .f32⟩
  | .local _ .vmem, ⟨4, _⟩ => ⟨S1x1x3072, .f32⟩
  | .local _ .vmem, ⟨5, _⟩ => ⟨S1x32x448, .f32⟩
  | .local _ .vmem, ⟨6, _⟩ => ⟨S1x32x448, .f32⟩
  | .local _ .vmem, ⟨7, _⟩ => ⟨S1x32x448, .f32⟩
  | .local _ .vmem, ⟨8, _⟩ => ⟨S1x32x448, .f32⟩
  | .local _ .vmem, ⟨9, _⟩ => ⟨S448x2048, .i8⟩
  | .local _ .vmem, ⟨10, _⟩ => ⟨S448x2048, .i8⟩
  | .local _ .vmem, ⟨11, _⟩ => ⟨S1x1x448, .f32⟩
  | .local _ .vmem, ⟨12, _⟩ => ⟨S1x1x448, .f32⟩
  | .local _ .vmem, ⟨13, _⟩ => ⟨S1x1x448, .i32⟩
  | .local _ .vmem, ⟨14, _⟩ => ⟨S1x1x448, .i32⟩
  | .local _ .vmem, ⟨15, _⟩ => ⟨S1x8x7x64x256, .bf16⟩
  | .local _ .vmem, ⟨16, _⟩ => ⟨S1x8x7x64x256, .bf16⟩
  | .local _ .vmem, ⟨17, _⟩ => ⟨S1x1x448x512, .i8⟩
  | .local _ .vmem, ⟨18, _⟩ => ⟨S1x1x448x512, .i8⟩
  | .local _ .vmem, ⟨19, _⟩ => ⟨S1x1x448x512, .i8⟩
  | .local _ .vmem, ⟨20, _⟩ => ⟨S1x1x448x512, .i8⟩
  | .local _ .vmem, ⟨21, _⟩ => ⟨S1x8x448, .f32⟩
  | .local _ .vmem, ⟨22, _⟩ => ⟨S1x8x448, .f32⟩
  | .local _ .vmem, ⟨23, _⟩ => ⟨S1x8x448, .f32⟩
  | .local _ .vmem, ⟨24, _⟩ => ⟨S1x8x448, .f32⟩
  | .local _ .vmem, ⟨25, _⟩ => ⟨S1x512x448, .bf16⟩
  | .local _ .vmem, ⟨26, _⟩ => ⟨S1x512x448, .bf16⟩
  | .local _ .vmem, ⟨27, _⟩ => ⟨S2048x3072, .bf16⟩
  | .local _ .vmem, ⟨28, _⟩ => ⟨S64x3072, .i32⟩
  | .local _ .vmem, ⟨29, _⟩ => ⟨S448x2048, .bf16⟩
  | _, _ => ⟨S6x448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_c_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev main_v6_6 : Ref sig .tc := ⟨.hbm, 20, rfl⟩
abbrev main_v6_7 : Ref sig .tc := ⟨.hbm, 21, rfl⟩
abbrev main_v6_8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [BitOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S448x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x3072 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x32x448 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x448 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S448x2048 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x448 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x448 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x7x64x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x448x512 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x448x512 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x448 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x448 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512x448 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== QkvIdeal.lean ====
abbrev S64x2x3072 : Shape := ⟨3, ![64, 2, 3072]⟩
abbrev S64x1x3072 : Shape := ⟨3, ![64, 1, 3072]⟩
abbrev S1x2x3072 : Shape := ⟨3, ![1, 2, 3072]⟩
  | .local _ .vmem, ⟨28, _⟩ => ⟨S64x2x3072, .bf16⟩
variable {F : FTy → Type} [FloatOps F]
-- ==== QkvReferenceIdeal.lean ====
abbrev S6x448x2048 : Shape := ⟨3, ![6, 448, 2048]⟩
abbrev S6x448x32 : Shape := ⟨3, ![6, 448, 32]⟩
abbrev S2x1024x3072 : Shape := ⟨3, ![2, 1024, 3072]⟩
abbrev S2x64x3072 : Shape := ⟨3, ![2, 64, 3072]⟩
abbrev S2x3072 : Shape := ⟨2, ![2, 3072]⟩
abbrev S2688x2048 : Shape := ⟨2, ![2688, 2048]⟩
abbrev S6x1x448 : Shape := ⟨3, ![6, 1, 448]⟩
abbrev S2688 : Shape := ⟨1, ![2688]⟩
abbrev S2688x1 : Shape := ⟨2, ![2688, 1]⟩

abbrev nBuf : Space → Nat
  | .hbm => 10
  | .vmem => 4
  | .smem => 0
  | _ => 0

abbrev bufTy : (tb : Table) → Fin (tcTables nBuf tb) → BufTy
  | .hbm, ⟨0, _⟩ => ⟨S6x448x2048, .bf16⟩
  | .hbm, ⟨1, _⟩ => ⟨S6x448x32, .f32⟩
  | .hbm, ⟨2, _⟩ => ⟨S6x448x32, .f32⟩
  | .hbm, ⟨3, _⟩ => ⟨S2x1024x3072, .i8⟩
  | .hbm, ⟨4, _⟩ => ⟨S2x64x3072, .f32⟩
  | .hbm, ⟨5, _⟩ => ⟨S2x3072, .f32⟩
  | .hbm, ⟨6, _⟩ => ⟨S2688x2048, .bf16⟩
  | .hbm, ⟨7, _⟩ => ⟨S2688x2048, .i8⟩
  | .hbm, ⟨8, _⟩ => ⟨S6x1x448, .f32⟩
  | .hbm, ⟨9, _⟩ => ⟨S6x1x448, .i32⟩
  | .local _ .vmem, ⟨0, _⟩ => ⟨S2688x2048, .bf16⟩
  | .local _ .vmem, ⟨1, _⟩ => ⟨S2688x2048, .i8⟩
  | .local _ .vmem, ⟨2, _⟩ => ⟨S6x1x448, .f32⟩
  | .local _ .vmem, ⟨3, _⟩ => ⟨S6x1x448, .i32⟩
  | _, _ => ⟨S6x448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2688x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2688x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x1x448 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x1x448 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Nibble.lean ====
/-
  The byte arithmetic of the weights. The kernel reads four packed bytes of a column as one 32-bit word, shifts and masks
  the word, and reads it back as bytes; this module says what that does to one byte, and what number the byte then is.
-/
module

public import Idealize.ShloMosaic.Lib.BitcastFour
public import Idealize.ShloMosaic.PureOps.Ideal
public import Mathlib.Tactic.IntervalCases

@[expose] public section

noncomputable section

namespace Cert.GateUp

open Idealize.ShloMosaic

/-- Bytes read as words and the words read back as bytes, with an operation on the words in between which acts on each
    byte of a word by `f`: the whole is `f` of each byte. -/
theorem bitcast_bytewise {s t : Shape} (x : s.Idx → BitVec 8) (h : s.Bitcasts 8 t 32) (h' : t.Bitcasts 32 s 8)
    (op : BitVec 32 → BitVec 32) (f : BitVec 8 → BitVec 8)
    (hop : ∀ (w : BitVec 32) (b : BitVec 8) (p : ℕ), p < 4 → (∀ q < 8, w.getLsbD (8 * p + q) = b.getLsbD q) →
      ∀ q < 8, (op w).getLsbD (8 * p + q) = (f b).getLsbD q) (j : s.Idx) :
    bitcast s 8 (fun i => op (bitcast t 32 x h i)) h' j = f (x j) := by
  have h2 : 2 ≤ s.rank := h.2.1 (by decide)
  have hrank : s.rank = t.rank := h.1.symm
  apply BitVec.eq_of_getLsbD_eq
  intro q hq
  rw [bitcast_getLsbD _ h' j q hq (by decide)]
  have e1 : (s.row j * 8 + q) / 32 = s.row j / 4 := by omega
  have e2 : (s.row j * 8 + q) % 32 = 8 * (s.row j % 4) + q := by omega
  rw [e2]
  refine hop _ _ _ (by omega) ?_ q hq
  intro q' hq'
  rw [bitcast_8_32_getLsbD x h _ _ (by omega)]
  have e3 : (8 * (s.row j % 4) + q') % 8 = q' := by omega
  rw [e3]
  congr 2
  funext a
  apply Fin.ext
  by_cases ha : a.val + 2 = s.rank
  · rw [h.srcIdx_row _ _ _ a ha]
    have hrow : ∀ (u : Shape) (hu : 2 ≤ u.rank) (i : u.Idx) (b : Fin u.rank), b.val + 2 = u.rank → u.row i = (i b).val := by
      intro u hu i b hb
      simp only [Shape.row, dif_pos hu]
      rw [show u.rowAx hu = b from Fin.ext (by simp [Shape.rowAx]; omega)]
    rw [hrow t (by omega) _ (a.cast hrank) (by simpa [hrank] using ha), h'.srcIdx_row _ _ _ (a.cast hrank) (by simpa [hrank] using ha),
      ← hrow s h2 j a ha]
    omega
  · rw [h.srcIdx_other _ _ _ a ha, h'.srcIdx_other _ _ _ (a.cast hrank) (by simpa [hrank] using ha)]
    rfl

/-- The mask which keeps the high half of every byte, at a bit. -/
theorem mask_getLsbD (p q : ℕ) (hp : p < 4) (hq : q < 8) : (4042322160#32 : BitVec 32).getLsbD (8 * p + q) = decide (4 ≤ q) := by
  interval_cases p <;> interval_cases q <;> rfl

/-- The high half of a byte kept, at a bit. -/
theorem mask8_getLsbD (q : ℕ) (hq : q < 8) : (240#8 : BitVec 8).getLsbD q = decide (4 ≤ q) := by
  interval_cases q <;> rfl

/-- A word shifted up by four bits and masked: each byte's low half moved to its high half. -/
theorem lo_word (w : BitVec 32) (b : BitVec 8) (p : ℕ) (hp : p < 4) (h : ∀ q < 8, w.getLsbD (8 * p + q) = b.getLsbD q)
    (q : ℕ) (hq : q < 8) : (IntOp.andi (IntOp.shli .vector w 4#32) 4042322160#32).getLsbD (8 * p + q) = (b <<< 4).getLsbD q := by
  have e : IntOp.shli .vector w 4#32 = w <<< 4 := rfl
  rw [e]
  simp only [IntOp.andi, BitVec.getLsbD_and, mask_getLsbD p q hp hq, BitVec.getLsbD_shiftLeft]
  by_cases h4 : 4 ≤ q
  · have := h (q - 4) (by omega)
    rw [show 8 * p + q - 4 = 8 * p + (q - 4) by omega, this]
    simp [h4, hq, show 8 * p + q < 32 by omega, show ¬ 8 * p + q < 4 by omega, show ¬ q < 4 by omega]
  · simp [h4, show q < 4 by omega]

/-- A word masked: each byte's low half cleared. -/
theorem hi_word (w : BitVec 32) (b : BitVec 8) (p : ℕ) (hp : p < 4) (h : ∀ q < 8, w.getLsbD (8 * p + q) = b.getLsbD q)
    (q : ℕ) (hq : q < 8) : (IntOp.andi w 4042322160#32).getLsbD (8 * p + q) = (b &&& 240#8).getLsbD q := by
  simp only [IntOp.andi, BitVec.getLsbD_and, mask_getLsbD p q hp hq, mask8_getLsbD q hq, h q hq]

/-- The signed number in the low half of a byte, spelt on 32 bits: shifted to the top and back, keeping the sign. -/
def lowNib (b : BitVec 8) : ℤ := ((b.setWidth 32 <<< 28).sshiftRight 28).toInt

/-- The signed number in the high half of a byte, spelt on 32 bits. -/
def highNib (b : BitVec 8) : ℤ := ((b.setWidth 32 <<< 24).sshiftRight 28).toInt

/-- The byte with its low half moved up is sixteen times the low half's number. -/
theorem lo_toInt (b : BitVec 8) : (b <<< 4).toInt = 16 * lowNib b := by
  revert b; unfold lowNib; decide +kernel

/-- The byte with its low half cleared is sixteen times the high half's number. -/
theorem hi_toInt (b : BitVec 8) : (b &&& 240#8).toInt = 16 * highNib b := by
  revert b; unfold highNib; decide +kernel

/-- Sixteen times a number against a sixteenth of a scale is the number against the scale, whatever the scale. -/
theorem sixteen_mul (n : ℤ) (s : EReal) : (((16 * n : ℤ) : ℝ) : EReal) * (s * (((1 : ℝ) / 16 : ℝ) : EReal)) = ((n : ℝ) : EReal) * s := by
  rw [mul_comm s, ← mul_assoc, ← EReal.coe_mul]
  congr 2
  push_cast
  ring

end Cert.GateUp

end
-- ==== Proof.Tile.lean ====
/-
  What one 32-row tile of the widened weights holds. The kernel widens the packed bytes 32 rows at a time: a tile of the
  low halves and a tile of the high halves, each against one row of the scratch that holds a sixteenth of the scales twice.
-/
module

public import proofs.«01_k».proof.Proof.Nibble
public import proofs.«01_k».proof.Proof.Gen.KernelIdeal.Skeleton
public import Idealize.ShloMosaic.Lib.Pointwise

@[expose] public section

noncomputable section

namespace Cert.GateUp

open Idealize.ShloMosaic
open Cert.KernelIdeal Cert.KernelIdeal.Gen

/-- A tile of low halves: the printed operations, as one term. -/
def tileLo (b : Vec Ideal S1x32x256 .i8) (s : Vec Ideal S1x2x256 .bf16) : FVec Ideal S32x256 .bf16 := k0_pay7 (k0_pay6 b s)

/-- A tile of high halves: the printed operations, as one term. -/
def tileHi (b : Vec Ideal S1x32x256 .i8) (s : Vec Ideal S1x2x256 .bf16) : FVec Ideal S32x256 .bf16 := k0_pay8 (k0_pay5 b) s

/-- The scale rows a tile is multiplied by: a pair of rows repeated down the tile. -/
def scaleRows (s : Vec Ideal S1x2x256 .bf16) : FVec Ideal S32x256 .bf16 :=
  have v22_lo : FVec Ideal S1x256 .bf16 := shapeCast S1x256 (rowsOfParity 0 S1x1x256 s bitcasts_S1x2x256_w16_S1x1x256_w32) shapeCasts_S1x1x256_S1x256
  have v22_hi : FVec Ideal S1x256 .bf16 := shapeCast S1x256 (rowsOfParity 1 S1x1x256 s bitcasts_S1x2x256_w16_S1x1x256_w32) shapeCasts_S1x1x256_S1x256
  have v23_lo : FVec Ideal S8x256 .bf16 := concatenate S8x256 0 [⟨S1x256, v22_lo⟩, ⟨S1x256, v22_lo⟩, ⟨S1x256, v22_lo⟩, ⟨S1x256, v22_lo⟩, ⟨S1x256, v22_lo⟩, ⟨S1x256, v22_lo⟩, ⟨S1x256, v22_lo⟩, ⟨S1x256, v22_lo⟩] concatenates_S1x256_S1x256_S1x256_S1x256_S1x256_S1x256_S1x256_S1x256_S8x256_d0
  have v23_hi : FVec Ideal S8x256 .bf16 := concatenate S8x256 0 [⟨S1x256, v22_hi⟩, ⟨S1x256, v22_hi⟩, ⟨S1x256, v22_hi⟩, ⟨S1x256, v22_hi⟩, ⟨S1x256, v22_hi⟩, ⟨S1x256, v22_hi⟩, ⟨S1x256, v22_hi⟩, ⟨S1x256, v22_hi⟩] concatenates_S1x256_S1x256_S1x256_S1x256_S1x256_S1x256_S1x256_S1x256_S8x256_d0
  have v24 : FVec Ideal S16x256 .bf16 := interleaveRows S16x256 v23_lo v23_hi bitcasts_S16x256_w16_S8x256_w32
  concatenate S32x256 0 [⟨S16x256, v24⟩, ⟨S16x256, v24⟩] concatenates_S16x256_S16x256_S32x256_d0

/-- If the two rows of the pair are one row, every row of the tile's scales is that row. -/
theorem scaleRows_apply (s : Vec Ideal S1x2x256 .bf16) (q : Fin 256 → EReal)
    (hs : ∀ (p : Fin 2) (n : Fin 256), s (ix3 0 p n) = q n) (r : Fin 32) (n : Fin 256) :
    scaleRows s (ix2 r n) = q n := by
  unfold scaleRows
  pointwise
  simp only [hs, dite_eq_ite, ite_self]

/-- A tile of low halves is the bytes with their low halves moved up, as numbers, times the scale rows. -/
theorem tileLo_eq (b : Vec Ideal S1x32x256 .i8) (s : Vec Ideal S1x2x256 .bf16) :
    tileLo b s = mulf (sitofp .bf16 (bitcast S32x256 8 (fun i => IntOp.andi (IntOp.shli .vector (bitcast S8x256 32
      (shapeCast S32x256 b shapeCasts_S1x32x256_S32x256) bitcasts_S32x256_w8_S8x256_w32 i) 4#32) 4042322160#32)
      bitcasts_S8x256_w32_S32x256_w8)) (scaleRows s) := by
  simp only [tileLo, k0_pay7, k0_pay6, shapeCast_self]
  rfl

/-- A tile of high halves is the bytes with their low halves cleared, as numbers, times the scale rows. -/
theorem tileHi_eq (b : Vec Ideal S1x32x256 .i8) (s : Vec Ideal S1x2x256 .bf16) :
    tileHi b s = mulf (sitofp .bf16 (bitcast S32x256 8 (fun i => IntOp.andi (bitcast S8x256 32
      (shapeCast S32x256 b shapeCasts_S1x32x256_S32x256) bitcasts_S32x256_w8_S8x256_w32 i) 4042322160#32)
      bitcasts_S8x256_w32_S32x256_w8)) (scaleRows s) := by
  simp only [tileHi, k0_pay8, k0_pay5, shapeCast_self]
  rfl

/-- An element of a tile of low halves is the number in the low half of the byte there, times the scale. -/
theorem tileLo_apply (b : Vec Ideal S1x32x256 .i8) (s : Vec Ideal S1x2x256 .bf16) (q : Fin 256 → EReal)
    (hs : ∀ (p : Fin 2) (n : Fin 256), s (ix3 0 p n) = q n * (((1 : ℝ) / 16 : ℝ) : EReal)) (r : Fin 32) (n : Fin 256) :
    tileLo b s (ix2 r n) = ((lowNib (b (ix3 0 r n)) : ℝ) : EReal) * q n := by
  rw [tileLo_eq]
  simp only [mulf_apply, scaleRows_apply s _ hs, Ideal.mulf_def, ValueIdx.sitofp_apply]
  rw [bitcast_bytewise _ _ _ (fun w => IntOp.andi (IntOp.shli .vector w 4#32) 4042322160#32) (fun b => b <<< 4)
    (fun w b p hp h q hq => lo_word w b p hp h q hq)]
  show ((((shapeCast S32x256 b shapeCasts_S1x32x256_S32x256 (ix2 r n) <<< 4 : BitVec 8).toInt : ℝ) : EReal)) * _ = _
  rw [lo_toInt, sixteen_mul]
  pointwise

/-- An element of a tile of high halves is the number in the high half of the byte there, times the scale. -/
theorem tileHi_apply (b : Vec Ideal S1x32x256 .i8) (s : Vec Ideal S1x2x256 .bf16) (q : Fin 256 → EReal)
    (hs : ∀ (p : Fin 2) (n : Fin 256), s (ix3 0 p n) = q n * (((1 : ℝ) / 16 : ℝ) : EReal)) (r : Fin 32) (n : Fin 256) :
    tileHi b s (ix2 r n) = ((highNib (b (ix3 0 r n)) : ℝ) : EReal) * q n := by
  rw [tileHi_eq]
  simp only [mulf_apply, scaleRows_apply s _ hs, Ideal.mulf_def, ValueIdx.sitofp_apply]
  rw [bitcast_bytewise _ _ _ (fun w => IntOp.andi w 4042322160#32) (fun b => b &&& 240#8)
    (fun w b p hp h q hq => hi_word w b p hp h q hq)]
  show ((((shapeCast S32x256 b shapeCasts_S1x32x256_S32x256 (ix2 r n) &&& 240#8 : BitVec 8).toInt : ℝ) : EReal)) * _ = _
  rw [hi_toInt, sixteen_mul]
  pointwise

/-- The scratch of packed scales holds, in both rows of pair `j`, a sixteenth of row `j` of the scales. -/
theorem packScales_apply (v : Vec Ideal S1x64x256 .f32) (j : Fin 64) (p : Fin 2) (n : Fin 256) :
    k0_pay3 v (ix3 j p n) = v (ix3 0 j n) * (((1 : ℝ) / 16 : ℝ) : EReal) := by
  have e : Ideal.ofBits .f32 0x3D800000#32 = (((1 : ℝ) / 16 : ℝ) : EReal) := by
    unfold Ideal.ofBits Ideal.ieee
    have h31 : BitVec.extractLsb' 31 1 1031798784#32 = 0#1 := by decide
    have h23 : (1031798784 >>> 23 % 256 : ℕ) = 123 := by decide
    norm_num [h31, h23]
  unfold k0_pay3
  pointwise
  simp only [ite_self, Ideal.mulf_def, Ideal.ofBits_def, e, Ideal.truncf_def, Ideal.extf_def]

end Cert.GateUp

end
-- ==== Proof.Pieces.lean ====
/-
  The widened weights the kernel keeps in scratch, as one array, and each 32-row tile it stores as a block of that array.
-/
module

public import proofs.«01_k».proof.Proof.Tile
public import Idealize.ShloMosaic.Lib.Pipeline.ReadBack

@[expose] public section

noncomputable section

namespace Cert.GateUp

open Idealize.ShloMosaic
open Cert.KernelIdeal Cert.KernelIdeal.Gen

/-- The four-bit number for row `k` of the weights in the byte that packs rows `k` and `k + 1024`: its low half for the
    first 1024 rows, its high half for the others. -/
def nib (k : ℕ) (b : BitVec 8) : ℤ := if k < 1024 then lowNib b else highNib b

/-- The widened weight in row `k` and column `n`: the four-bit number times the scale of its group of 32 rows. -/
def wide (x : Vec Ideal S1x1024x256 .i8) (s : Vec Ideal S1x64x256 .f32) (k : Fin 2048) (n : Fin 256) : EReal :=
  ((nib k.val (x (ix3 0 (⟨k.val % 1024, Nat.mod_lt _ (by decide)⟩ : Fin 1024) n)) : ℝ) : EReal)
    * s (ix3 0 (⟨k.val / 32, by have := k.isLt; omega⟩ : Fin 64) n)

/-- The scratch of widened weights: 256 columns of the gate's, then 256 of the other matrix's. -/
def wScratch (xg xu : Vec Ideal S1x1024x256 .i8) (sg su : Vec Ideal S1x64x256 .f32) : Vec Ideal S2048x512 .bf16 := fun y =>
  if h : (y 1).val < 256 then wide xg sg (y 0) ⟨(y 1).val, h⟩
  else wide xu su (y 0) ⟨(y 1).val - 256, by have h5 : (y 1).val < 512 := (y 1).isLt; omega⟩

/-- A load of 32 rows of the bytes at an index. -/
theorem ld_bytes {α : Type} (x : S1x1024x256.Idx → α) (o : ℕ) (inb : ∀ a, (![0, o, 0] : Fin 3 → ℕ) a + S1x32x256.size a ≤ S1x1024x256.size a)
    (r : Fin 32) (n : Fin 256) (k : Fin 1024) (hk : k.val = o + r.val) :
    extractStridedSlice S1x32x256 ![0, o, 0] x ⟨rfl, inb⟩ (ix3 0 r n) = x (ix3 0 k n) := by
  refine congrArg x (funext fun a => Fin.ext ?_)
  fin_cases a
  · rfl
  · exact hk.symm
  · exact Nat.zero_add _

/-- A load of one pair of rows of the packed scales at an index. -/
theorem ld_pair {α : Type} (P : S64x2x256.Idx → α) (g : ℕ) (inb : ∀ a, (![g, 0, 0] : Fin 3 → ℕ) a + S1x2x256.size a ≤ S64x2x256.size a)
    (p : Fin 2) (n : Fin 256) (j : Fin 64) (hj : j.val = g) :
    extractStridedSlice S1x2x256 ![g, 0, 0] P ⟨rfl, inb⟩ (ix3 0 p n) = P (ix3 j p n) := by
  refine congrArg P (funext fun a => Fin.ext ?_)
  fin_cases a
  · exact hj.symm
  · exact Nat.zero_add _
  · exact Nat.zero_add _

/-- The tile of low halves at rows `o … o + 31` of the bytes is rows `o … o + 31` of the widened weights. -/
theorem lo_wide (x : Vec Ideal S1x1024x256 .i8) (s : Vec Ideal S1x64x256 .f32) (P : Vec Ideal S64x2x256 .bf16)
    (hP : ∀ (j : Fin 64) (p : Fin 2) (n : Fin 256), P (ix3 j p n) = s (ix3 0 j n) * (((1 : ℝ) / 16 : ℝ) : EReal))
    (o g : ℕ) (hg : o = 32 * g) (ho : o + 32 ≤ 1024) (inb1) (inb2) (r : Fin 32) (n : Fin 256) :
    tileLo (extractStridedSlice S1x32x256 ![0, o, 0] x ⟨rfl, inb1⟩) (extractStridedSlice S1x2x256 ![g, 0, 0] P ⟨rfl, inb2⟩) (ix2 r n)
      = wide x s ⟨o + r.val, by have := r.isLt; omega⟩ n := by
  have hr := r.isLt
  rw [tileLo_apply _ _ (fun n => s (ix3 0 (⟨g, by omega⟩ : Fin 64) n)) (fun p n => by
    rw [ld_pair P g inb2 p n ⟨g, by omega⟩ rfl, hP]) r n, ld_bytes x o inb1 r n ⟨o + r.val, by omega⟩ rfl]
  unfold wide nib
  rw [if_pos (by show o + r.val < 1024; omega)]
  have e1 : (o + r.val) % 1024 = o + r.val := by omega
  have e2 : (o + r.val) / 32 = g := by omega
  simp only [e1, e2]

/-- The tile of high halves at rows `o … o + 31` of the bytes is rows `1024 + o … 1024 + o + 31` of the widened weights. -/
theorem hi_wide (x : Vec Ideal S1x1024x256 .i8) (s : Vec Ideal S1x64x256 .f32) (P : Vec Ideal S64x2x256 .bf16)
    (hP : ∀ (j : Fin 64) (p : Fin 2) (n : Fin 256), P (ix3 j p n) = s (ix3 0 j n) * (((1 : ℝ) / 16 : ℝ) : EReal))
    (o g : ℕ) (hg : 1024 + o = 32 * g) (ho : o + 32 ≤ 1024) (inb1) (inb2) (r : Fin 32) (n : Fin 256) :
    tileHi (extractStridedSlice S1x32x256 ![0, o, 0] x ⟨rfl, inb1⟩) (extractStridedSlice S1x2x256 ![g, 0, 0] P ⟨rfl, inb2⟩) (ix2 r n)
      = wide x s ⟨1024 + o + r.val, by have := r.isLt; omega⟩ n := by
  have hr := r.isLt
  rw [tileHi_apply _ _ (fun n => s (ix3 0 (⟨g, by omega⟩ : Fin 64) n)) (fun p n => by
    rw [ld_pair P g inb2 p n ⟨g, by omega⟩ rfl, hP]) r n, ld_bytes x o inb1 r n ⟨o + r.val, by omega⟩ rfl]
  unfold wide nib
  rw [if_neg (by show ¬ (1024 + o + r.val < 1024); omega)]
  have e1 : (1024 + o + r.val) % 1024 = o + r.val := by omega
  have e2 : (1024 + o + r.val) / 32 = g := by omega
  simp only [e1, e2]

/-- A row and column of the gate's half of the scratch. -/
theorem wScratch_gate (xg xu : Vec Ideal S1x1024x256 .i8) (sg su : Vec Ideal S1x64x256 .f32) (k : Fin 2048) (n : Fin 256) (y : S2048x512.Idx)
    (h0 : (y 0).val = k.val) (h1 : (y 1).val = n.val) : wScratch xg xu sg su y = wide xg sg k n := by
  have hn := n.isLt
  unfold wScratch
  rw [dif_pos (by omega)]
  exact congrArg₂ (wide xg sg) (Fin.ext h0) (Fin.ext h1)

/-- A row and column of the other half. -/
theorem wScratch_up (xg xu : Vec Ideal S1x1024x256 .i8) (sg su : Vec Ideal S1x64x256 .f32) (k : Fin 2048) (n : Fin 256) (y : S2048x512.Idx)
    (h0 : (y 0).val = k.val) (h1 : (y 1).val = 256 + n.val) : wScratch xg xu sg su y = wide xu su k n := by
  unfold wScratch
  rw [dif_neg (by omega)]
  exact congrArg₂ (wide xu su) (Fin.ext h0) (Fin.ext (by show (y 1).val - 256 = n.val; omega))

section Pieces

variable {xg xu : Vec Ideal S1x1024x256 .i8} {sg su : Vec Ideal S1x64x256 .f32} {P : Vec Ideal S64x2x256 .bf16}

/-- A stored tile of the gate's low halves is a block of the scratch. -/
theorem lo_gate (hP : ∀ (j : Fin 64) (p : Fin 2) (n : Fin 256), P (ix3 j p n) = sg (ix3 0 j n) * (((1 : ℝ) / 16 : ℝ) : EReal))
    {o g : ℕ} (hg : o = 32 * g) (ho : o + 32 ≤ 1024) {inb1} {inb2} (inb3 : ∀ a, (![o, 0] : Fin 2 → ℕ) a + S32x256.size a ≤ S2048x512.size a) (y : S32x256.Idx) :
    tileLo (View.ld (S := S1x1024x256) xg (Rect.unit ![0, o, 0] S1x32x256.size inb1)) (View.ld (S := S64x2x256) P (Rect.unit ![g, 0, 0] S1x2x256.size inb2)) y
      = wScratch xg xu sg su ((Rect.unit (s := S2048x512) ![o, 0] S32x256.size inb3).emb y) := by
  obtain ⟨r, n, rfl⟩ : ∃ (r : Fin 32) (n : Fin 256), y = ix2 r n := ⟨y 0, y 1, by funext a; fin_cases a <;> rfl⟩
  rw [View.ld_unit, View.ld_unit]
  refine (lo_wide xg sg P hP o g hg ho inb1 inb2 r n).trans (wScratch_gate xg xu sg su _ n _ ?_ ?_).symm
  · show o + 1 * r.val = o + r.val; omega
  · show 0 + 1 * n.val = n.val; omega

/-- A stored tile of the gate's high halves is a block of the scratch. -/
theorem hi_gate (hP : ∀ (j : Fin 64) (p : Fin 2) (n : Fin 256), P (ix3 j p n) = sg (ix3 0 j n) * (((1 : ℝ) / 16 : ℝ) : EReal))
    {o g R : ℕ} (hR : R = 1024 + o) (hg : R = 32 * g) (ho : o + 32 ≤ 1024) {inb1} {inb2} (inb3 : ∀ a, (![R, 0] : Fin 2 → ℕ) a + S32x256.size a ≤ S2048x512.size a) (y : S32x256.Idx) :
    tileHi (View.ld (S := S1x1024x256) xg (Rect.unit ![0, o, 0] S1x32x256.size inb1)) (View.ld (S := S64x2x256) P (Rect.unit ![g, 0, 0] S1x2x256.size inb2)) y
      = wScratch xg xu sg su ((Rect.unit (s := S2048x512) ![R, 0] S32x256.size inb3).emb y) := by
  subst hR
  obtain ⟨r, n, rfl⟩ : ∃ (r : Fin 32) (n : Fin 256), y = ix2 r n := ⟨y 0, y 1, by funext a; fin_cases a <;> rfl⟩
  rw [View.ld_unit, View.ld_unit]
  refine (hi_wide xg sg P hP o g hg ho inb1 inb2 r n).trans (wScratch_gate xg xu sg su _ n _ ?_ ?_).symm
  · show 1024 + o + 1 * r.val = 1024 + o + r.val; omega
  · show 0 + 1 * n.val = n.val; omega

/-- A stored tile of the other matrix's low halves is a block of the scratch. -/
theorem lo_up (hP : ∀ (j : Fin 64) (p : Fin 2) (n : Fin 256), P (ix3 j p n) = su (ix3 0 j n) * (((1 : ℝ) / 16 : ℝ) : EReal))
    {o g : ℕ} (hg : o = 32 * g) (ho : o + 32 ≤ 1024) {inb1} {inb2} (inb3 : ∀ a, (![o, 256] : Fin 2 → ℕ) a + S32x256.size a ≤ S2048x512.size a) (y : S32x256.Idx) :
    tileLo (View.ld (S := S1x1024x256) xu (Rect.unit ![0, o, 0] S1x32x256.size inb1)) (View.ld (S := S64x2x256) P (Rect.unit ![g, 0, 0] S1x2x256.size inb2)) y
      = wScratch xg xu sg su ((Rect.unit (s := S2048x512) ![o, 256] S32x256.size inb3).emb y) := by
  obtain ⟨r, n, rfl⟩ : ∃ (r : Fin 32) (n : Fin 256), y = ix2 r n := ⟨y 0, y 1, by funext a; fin_cases a <;> rfl⟩
  rw [View.ld_unit, View.ld_unit]
  refine (lo_wide xu su P hP o g hg ho inb1 inb2 r n).trans (wScratch_up xg xu sg su _ n _ ?_ ?_).symm
  · show o + 1 * r.val = o + r.val; omega
  · show 256 + 1 * n.val = 256 + n.val; omega

/-- A stored tile of the other matrix's high halves is a block of the scratch. -/
theorem hi_up (hP : ∀ (j : Fin 64) (p : Fin 2) (n : Fin 256), P (ix3 j p n) = su (ix3 0 j n) * (((1 : ℝ) / 16 : ℝ) : EReal))
    {o g R : ℕ} (hR : R = 1024 + o) (hg : R = 32 * g) (ho : o + 32 ≤ 1024) {inb1} {inb2} (inb3 : ∀ a, (![R, 256] : Fin 2 → ℕ) a + S32x256.size a ≤ S2048x512.size a) (y : S32x256.Idx) :
    tileHi (View.ld (S := S1x1024x256) xu (Rect.unit ![0, o, 0] S1x32x256.size inb1)) (View.ld (S := S64x2x256) P (Rect.unit ![g, 0, 0] S1x2x256.size inb2)) y
      = wScratch xg xu sg su ((Rect.unit (s := S2048x512) ![R, 256] S32x256.size inb3).emb y) := by
  subst hR
  obtain ⟨r, n, rfl⟩ : ∃ (r : Fin 32) (n : Fin 256), y = ix2 r n := ⟨y 0, y 1, by funext a; fin_cases a <;> rfl⟩
  rw [View.ld_unit, View.ld_unit]
  refine (hi_wide xu su P hP o g hg ho inb1 inb2 r n).trans (wScratch_up xg xu sg su _ n _ ?_ ?_).symm
  · show 1024 + o + 1 * r.val = 1024 + o + r.val; omega
  · show 256 + 1 * n.val = 256 + n.val; omega

end Pieces

/-- One chunk whose scales are spread before its bytes are read is the same low half. -/
theorem cut34 (b : Vec Ideal S1x32x256 .i8) (s : Vec Ideal S1x2x256 .bf16) : k0_pay34 (k0_pay32 s) (k0_pay33 b) = tileLo b s := rfl

/-- One chunk whose scales are spread before its bytes are read is the same high half. -/
theorem cut44 (b : Vec Ideal S1x32x256 .i8) (s : Vec Ideal S1x2x256 .bf16) : k0_pay44 (k0_pay42 s) (k0_pay43 b) = tileHi b s := rfl

/-- One chunk whose scales are spread before its bytes are read is the same low half. -/
theorem cut120 (b : Vec Ideal S1x32x256 .i8) (s : Vec Ideal S1x2x256 .bf16) : k0_pay120 (k0_pay118 s) (k0_pay119 b) = tileLo b s := rfl

/-- One chunk whose scales are spread before its bytes are read is the same high half. -/
theorem cut130 (b : Vec Ideal S1x32x256 .i8) (s : Vec Ideal S1x2x256 .bf16) : k0_pay130 (k0_pay128 s) (k0_pay129 b) = tileHi b s := rfl

end Cert.GateUp
-- ==== Proof.WeightsA.lean ====
/-
  The scratch of widened weights read back: the 128 tiles a grid point stores leave the one array `wScratch`.
-/
module

public import proofs.«01_k».proof.Proof.Gen.KernelIdeal.Frame
public import proofs.«01_k».proof.Proof.Pieces

@[expose] public section

set_option maxRecDepth 16384

noncomputable section

namespace Cert.GateUp

open Idealize.ShloMosaic Idealize.ShloMosaic.Tactic
open Cert.KernelIdeal Cert.KernelIdeal.Gen

set_option maxHeartbeats 2000000 in
/-- Every tile stored at the first point is a block of the array of widened weights. -/
theorem piecesA (c : Dev nD) (a4 : Memref sig .tc .vmem S1x1024x256 .i8) (h4 : a4.IsWhole) (a5 : Memref sig .tc .vmem S1x1024x256 .i8) (h5 : a5.IsWhole)
    (a6 : Memref sig .tc .vmem S1x64x256 .f32) (h6 : a6.IsWhole) (a7 : Memref sig .tc .vmem S1x64x256 .f32) (h7 : a7.IsWhole)
    (a14 a15 : Memref sig .tc .vmem S64x2x256 .bf16)
    (x3 x4 : Vec Ideal S1x1024x256 .i8) (x5 x6 : Vec Ideal S1x64x256 .f32) :
    View.PiecesOf (wScratch x3 x4 x5 x6) (kernelRun0_A.sl.HS1_128 c a4 h4 a5 h5 a6 h6 a7 h7 a14 a15 x3 x4 x5 x6) := by
  have hPg : ∀ (j : Fin 64) (p : Fin 2) (n : Fin 256), k0_pay3 x5 (ix3 j p n) = x5 (ix3 0 j n) * (((1 : ℝ) / 16 : ℝ) : EReal) := packScales_apply x5
  have hPu : ∀ (j : Fin 64) (p : Fin 2) (n : Fin 256), k0_pay145 (k0_pay142 x6) (k0_pay143 x6) (ix3 j p n) = x6 (ix3 0 j n) * (((1 : ℝ) / 16 : ℝ) : EReal) :=
    packScales_apply x6
  sl_unfold_words
  simp (disch := decide) only [View.readCov_fill, View.readAt_eq_ld, h4.read_unread, h5.read_unread, h6.read_unread, h7.read_unread, View.ld_unit_lit,
    cut34, cut44, cut120, cut130]
  iterate 32
    refine ⟨fun y => hi_up hPu (by rfl) (by rfl) (by decide) (by decide) y, ?_⟩
    refine ⟨fun y => lo_up hPu (by rfl) (by decide) (by decide) y, ?_⟩
  iterate 32
    refine ⟨fun y => hi_gate hPg (by rfl) (by rfl) (by decide) (by decide) y, ?_⟩
    refine ⟨fun y => lo_gate hPg (by rfl) (by decide) (by decide) y, ?_⟩
  trivial

/-- What the products read of the scratch at the first point: the widened weights. -/
theorem weightsA (c : Dev nD) (a4 : Memref sig .tc .vmem S1x1024x256 .i8) (h4 : a4.IsWhole) (a5 : Memref sig .tc .vmem S1x1024x256 .i8) (h5 : a5.IsWhole)
    (a6 : Memref sig .tc .vmem S1x64x256 .f32) (h6 : a6.IsWhole) (a7 : Memref sig .tc .vmem S1x64x256 .f32) (h7 : a7.IsWhole)
    (a13 : Memref sig .tc .vmem S2048x512 .bf16) (a14 a15 : Memref sig .tc .vmem S64x2x256 .bf16)
    (x3 x4 : Vec Ideal S1x1024x256 .i8) (x5 x6 : Vec Ideal S1x64x256 .f32) :
    kernelRun0_A.sl.v1880 c a4 h4 a5 h5 a6 h6 a7 h7 a13 a14 a15 x3 x4 x5 x6 = wScratch x3 x4 x5 x6 := by
  unfold kernelRun0_A.sl.v1880
  have hc : ∀ y, ∃ pc ∈ (kernelRun0_A.sl.HS1_128 c a4 h4 a5 h5 a6 h6 a7 h7 a14 a15 x3 x4 x5 x6), y ∈ pc.1.set :=
    View.cover_of_tiledL _ S32x256.size (by sl_kernel_rfl)
  rw [View.readCov_eq_canon_ld _ _ _ hc, View.ld_unit_lit _ _ (by decide)]
  funext y
  exact View.canon_apply_of_pieces _ _ (piecesA c a4 h4 a5 h5 a6 h6 a7 h7 a14 a15 x3 x4 x5 x6).mem y (hc y)

end Cert.GateUp
-- ==== Proof.Codes.lean ====
/-
  The codes kept in scratch: the loop of the first grid point leaves every code as a number.
-/
module

public import proofs.«01_k».proof.Proof.Gen.KernelIdeal.Frame
public import Idealize.ShloMosaic.Lib.Pointwise
public import Idealize.ShloMosaic.Lib.Pipeline.ReadBack

@[expose] public section

noncomputable section

namespace Cert.GateUp

open Idealize.ShloMosaic Idealize.ShloMosaic.Tactic
open Cert.KernelIdeal Cert.KernelIdeal.Gen

/-- The codes as numbers. -/
def codesF (x : Vec Ideal S2688x2048 .i8) : Vec Ideal S2688x2048 .bf16 := fun y => (((x y).toInt : ℝ) : EReal)

/-- What one trip of the loop stores: its 128 rows of the codes, converted. -/
theorem trip_pieces (𝒱 : Variants) (c : Dev nD) (bd : Option 𝒱.V) (i : grid0.Coords) (arg1 : Memref sig .tc .vmem S2688x2048 .i8) (harg1 : arg1.IsWhole) (arg2 : Memref sig .tc .vmem S2688x128 .f32) (harg2 : arg2.IsWhole) (arg3 : Memref sig .tc .vmem S2688x128 .f32) (harg3 : arg3.IsWhole) (arg4 : Memref sig .tc .vmem S1x1024x256 .i8) (harg4 : arg4.IsWhole) (arg5 : Memref sig .tc .vmem S1x1024x256 .i8) (harg5 : arg5.IsWhole) (arg6 : Memref sig .tc .vmem S1x64x256 .f32) (harg6 : arg6.IsWhole) (arg7 : Memref sig .tc .vmem S1x64x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S768x256 .bf16) (harg10 : arg10.IsWhole) (arg11 : Memref sig .tc .vmem S2688x256 .f32) (harg11 : arg11.IsWhole) (arg12 : Memref sig .tc .vmem S2688x2048 .bf16) (harg12 : arg12.IsWhole) (arg13 : Memref sig .tc .vmem S2048x512 .bf16) (harg13 : arg13.IsWhole) (arg14 : Memref sig .tc .vmem S64x2x256 .bf16) (harg14 : arg14.IsWhole) (arg15 : Memref sig .tc .vmem S64x2x256 .bf16) (harg15 : arg15.IsWhole) (h1 : k0_cond1 i = 1#1)
    (X : BufTy.Contents (Elt Ideal) arg1.view.ty) (k : Fin k0_t1_loop.trips) :
    tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h1 X k
      = [⟨Rect.unit (s := S2688x2048) (k0_off1 k) S128x2048.size (k0_off1_inb i k h1),
          k0_pay2 (View.readAt (Elt Ideal) arg1.view (Rect.unit (s := S2688x2048) (k0_off1 k) S128x2048.size (k0_off1_inb i k h1)).toLoadRect X)⟩] := by
  unfold tripL_k0_t1 trip_k0_t1
  rfl

/-- Every piece the trips store is a block of the codes as numbers. -/
theorem codes_pieces (𝒱 : Variants) (c : Dev nD) (bd : Option 𝒱.V) (i : grid0.Coords) (arg1 : Memref sig .tc .vmem S2688x2048 .i8) (harg1 : arg1.IsWhole) (arg2 : Memref sig .tc .vmem S2688x128 .f32) (harg2 : arg2.IsWhole) (arg3 : Memref sig .tc .vmem S2688x128 .f32) (harg3 : arg3.IsWhole) (arg4 : Memref sig .tc .vmem S1x1024x256 .i8) (harg4 : arg4.IsWhole) (arg5 : Memref sig .tc .vmem S1x1024x256 .i8) (harg5 : arg5.IsWhole) (arg6 : Memref sig .tc .vmem S1x64x256 .f32) (harg6 : arg6.IsWhole) (arg7 : Memref sig .tc .vmem S1x64x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S768x256 .bf16) (harg10 : arg10.IsWhole) (arg11 : Memref sig .tc .vmem S2688x256 .f32) (harg11 : arg11.IsWhole) (arg12 : Memref sig .tc .vmem S2688x2048 .bf16) (harg12 : arg12.IsWhole) (arg13 : Memref sig .tc .vmem S2048x512 .bf16) (harg13 : arg13.IsWhole) (arg14 : Memref sig .tc .vmem S64x2x256 .bf16) (harg14 : arg14.IsWhole) (arg15 : Memref sig .tc .vmem S64x2x256 .bf16) (harg15 : arg15.IsWhole) (h1 : k0_cond1 i = 1#1)
    (x0 : Vec Ideal S2688x2048 .i8) (k : ℕ) (hk : k ≤ k0_t1_loop.trips) :
    View.PiecesOf (codesF x0) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h1 (harg1.unread x0) k) := by
  induction k with
  | zero => exact trivial
  | succ k ih =>
    rw [pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h1 (harg1.unread x0) ⟨k, hk⟩, trip_pieces]
    refine ⟨fun y => ?_, ih (Nat.le_of_succ_le hk)⟩
    dsimp only
    rw [View.readAt_eq_ld, harg1.read_unread]
    unfold k0_pay2
    rw [shapeCast_self]
    rfl

end Cert.GateUp
-- ==== Proof.HTile.lean ====
/-
  One tile of 384 rows of a grid point: the activation it computes from the two products, and its rotation by the
  Hadamard matrix, each read at an index.
-/
module

public import proofs.«01_k».proof.Proof.Gen.KernelIdeal.Skeleton
public import Idealize.ShloMosaic.Lib.Pointwise

@[expose] public section

noncomputable section

namespace Cert.GateUp

open Idealize.ShloMosaic
open Cert.KernelIdeal Cert.KernelIdeal.Gen

/-- One linear output: the row's scale times the product less the row's zero point times the column's sum of weights. -/
def lin (a z m acc : EReal) : EReal := a * (acc - z * m)

/-- The activation of a gate value and an up value. -/
def act (g u : EReal) : EReal := g * Ideal.logistic g * u

/-- The tile of activations at an index: the two linear outputs of the row, taken 256 columns apart, through the activation. -/
theorem h_apply (cb : Vec Ideal S384x2048 .bf16) (w : Vec Ideal S2048x512 .bf16) (gs gz : Vec Ideal S384x128 .f32) (mg mu : Vec Ideal S1x1x256 .f32)
    (a z : Fin 384 → EReal) (ha : ∀ r l, gs (ix2 r l) = a r) (hz : ∀ r l, gz (ix2 r l) = z r) (r : Fin 384) (n : Fin 256) :
    k0_pay287 cb w gs gz mg mu (ix2 r n)
      = act (lin (a r) (z r) (mg (ix3 0 0 n)) (∑ k : Fin 2048, cb (ix2 r k) * w (ix2 k (⟨n.val, by have := n.isLt; omega⟩ : Fin 512))))
          (lin (a r) (z r) (mu (ix3 0 0 n)) (∑ k : Fin 2048, cb (ix2 r k) * w (ix2 k (⟨256 + n.val, by have := n.isLt; omega⟩ : Fin 512)))) := by
  unfold k0_pay287 act lin
  pointwise
  simp only [ha, hz, dite_eq_ite, ite_self]

/-- The rotated tile at an index, the activations of its row being finite: the second and third copies of the row that
    the product takes are differences of the row from itself, so only the first 256 rows of the right factor count. -/
theorem rot_apply (h : FVec Ideal S384x256 .f32) (hd : Vec Ideal S768x256 .bf16) (r : Fin 384) (n : Fin 256)
    (hf : ∀ j, h (ix2 r j) - h (ix2 r j) = 0) :
    k0_pay288 h hd (ix2 r n) = ∑ j : Fin 256, h (ix2 r j) * hd (ix2 (⟨j.val, by have := j.isLt; omega⟩ : Fin 768) n) := by
  unfold k0_pay288
  pointwise
  refine (Fin.sum_univ_add (M := EReal) (a := 256) (b := 512) _).trans ?_
  rw [Finset.sum_congr (s₂ := Finset.univ) rfl (fun (j : Fin 512) _ => (?_ : _ = (0 : EReal))), Finset.sum_const_zero, add_zero]
  · refine Finset.sum_congr rfl fun j _ => ?_
    have hj : (Fin.castAdd 512 j).val < 256 := j.isLt
    rw [dif_pos hj]
    rfl
  · have hj : ¬ (Fin.natAdd 256 j).val < 256 := by show ¬ 256 + j.val < 256; omega
    rw [dif_neg hj]
    split <;> simp only [hf, sub_zero, zero_mul]

end Cert.GateUp
-- ==== Proof.Block.lean ====
/-
  One grid point's block of the result, as a function of what the point reads, and each stored tile as a block of it.
-/
module

public import proofs.«01_k».proof.Proof.HTile
public import Idealize.ShloMosaic.Lib.Pipeline.ReadBack

@[expose] public section

noncomputable section

namespace Cert.GateUp

open Idealize.ShloMosaic
open Cert.KernelIdeal Cert.KernelIdeal.Gen

/-- The activation in row `r` and column `j` of a point's block. -/
def blkHidden (cb : Vec Ideal S2688x2048 .bf16) (w : Vec Ideal S2048x512 .bf16) (a z : Fin 2688 → EReal) (mg mu : Vec Ideal S1x1x256 .f32)
    (r : Fin 2688) (j : Fin 256) : EReal :=
  act (lin (a r) (z r) (mg (ix3 0 0 j)) (∑ k : Fin 2048, cb (ix2 r k) * w (ix2 k (⟨j.val, by have := j.isLt; omega⟩ : Fin 512))))
    (lin (a r) (z r) (mu (ix3 0 0 j)) (∑ k : Fin 2048, cb (ix2 r k) * w (ix2 k (⟨256 + j.val, by have := j.isLt; omega⟩ : Fin 512))))

/-- A point's block: the rows of activations times the first 256 rows of the right factor. -/
def blkOut (cb : Vec Ideal S2688x2048 .bf16) (w : Vec Ideal S2048x512 .bf16) (a z : Fin 2688 → EReal) (mg mu : Vec Ideal S1x1x256 .f32)
    (hd : Vec Ideal S768x256 .bf16) : Vec Ideal S2688x256 .f32 := fun y =>
  ∑ j : Fin 256, blkHidden cb w a z mg mu (y 0) j * hd (ix2 (⟨j.val, by have := j.isLt; omega⟩ : Fin 768) (y 1))

/-- A load of 384 rows at an index. -/
theorem ld_rows {e : EltTy} {C : ℕ} (x : Vec Ideal (⟨2, ![2688, C]⟩ : Shape) e) (o : ℕ)
    (inb : ∀ a, (![o, 0] : Fin 2 → ℕ) a + (⟨2, ![384, C]⟩ : Shape).size a ≤ (⟨2, ![2688, C]⟩ : Shape).size a)
    (r : Fin 384) (l : Fin C) (q : Fin 2688) (hq : q.val = o + r.val) :
    View.ld (Val := Elt Ideal) (S := ⟨2, ![2688, C]⟩) x (Rect.unit ![o, 0] (⟨2, ![384, C]⟩ : Shape).size inb) (ix2 r l) = x (ix2 q l) := by
  refine congrArg x (funext fun a => Fin.ext ?_)
  fin_cases a
  · show o + 1 * r.val = q.val; omega
  · show 0 + 1 * l.val = l.val; omega

/-- A stored tile of 384 rows is a block of `blkOut`, the activations being finite. -/
theorem tile_block (cb : Vec Ideal S2688x2048 .bf16) (w : Vec Ideal S2048x512 .bf16) (gs gz : Vec Ideal S2688x128 .f32) (a z : Fin 2688 → EReal)
    (ha : ∀ r l, gs (ix2 r l) = a r) (hz : ∀ r l, gz (ix2 r l) = z r) (mg mu : Vec Ideal S1x1x256 .f32) (hd : Vec Ideal S768x256 .bf16)
    (hf : ∀ r j, blkHidden cb w a z mg mu r j - blkHidden cb w a z mg mu r j = 0)
    (o : ℕ) (ho : o + 384 ≤ 2688) {inb1} {inb2} {inb3} (inb4 : ∀ a, (![o, 0] : Fin 2 → ℕ) a + S384x256.size a ≤ S2688x256.size a) (y : S384x256.Idx) :
    k0_pay288 (k0_pay287 (View.ld (S := S2688x2048) cb (Rect.unit ![o, 0] S384x2048.size inb1)) w (View.ld (S := S2688x128) gs (Rect.unit ![o, 0] S384x128.size inb2))
        (View.ld (S := S2688x128) gz (Rect.unit ![o, 0] S384x128.size inb3)) mg mu) hd y
      = blkOut cb w a z mg mu hd ((Rect.unit (s := S2688x256) ![o, 0] S384x256.size inb4).emb y) := by
  obtain ⟨r, n, rfl⟩ : ∃ (r : Fin 384) (n : Fin 256), y = ix2 r n := ⟨y 0, y 1, by funext a; fin_cases a <;> rfl⟩
  have hr := r.isLt
  have hh : ∀ (r : Fin 384) (n : Fin 256), k0_pay287 (View.ld (S := S2688x2048) cb (Rect.unit ![o, 0] S384x2048.size inb1)) w
      (View.ld (S := S2688x128) gs (Rect.unit ![o, 0] S384x128.size inb2)) (View.ld (S := S2688x128) gz (Rect.unit ![o, 0] S384x128.size inb3)) mg mu (ix2 r n)
        = blkHidden cb w a z mg mu ⟨o + r.val, by have := r.isLt; omega⟩ n := by
    intro r n
    rw [h_apply _ w _ _ mg mu (fun r => a ⟨o + r.val, by have := r.isLt; omega⟩) (fun r => z ⟨o + r.val, by have := r.isLt; omega⟩)
      (fun r l => (ld_rows gs o inb2 r l ⟨o + r.val, by have := r.isLt; omega⟩ rfl).trans (ha _ _))
      (fun r l => (ld_rows gz o inb3 r l ⟨o + r.val, by have := r.isLt; omega⟩ rfl).trans (hz _ _)) r n]
    unfold blkHidden
    have e : ∀ k : Fin 2048, View.ld (S := S2688x2048) cb (Rect.unit ![o, 0] S384x2048.size inb1) (ix2 r k) = cb (ix2 ⟨o + r.val, by have := r.isLt; omega⟩ k) :=
      fun k => ld_rows cb o inb1 r k ⟨o + r.val, by have := r.isLt; omega⟩ rfl
    simp only [e]
  rw [rot_apply _ hd r n (fun j => by rw [hh]; exact hf _ _)]
  unfold blkOut
  have e0 : (Rect.unit (s := S2688x256) ![o, 0] S384x256.size inb4).emb (ix2 r n) 0 = (⟨o + r.val, by omega⟩ : Fin 2688) :=
    Fin.ext (by show o + 1 * r.val = o + r.val; omega)
  have e1 : (Rect.unit (s := S2688x256) ![o, 0] S384x256.size inb4).emb (ix2 r n) 1 = n := Fin.ext (by show 0 + 1 * n.val = n.val; omega)
  rw [e0, e1]
  exact Finset.sum_congr rfl fun j _ => by rw [hh]

end Cert.GateUp
-- ==== Proof.PointA.lean ====
/-
  What one grid point leaves in the result: its block, over the arrays the point reads.
-/
module

public import proofs.«01_k».proof.Proof.WeightsA
public import proofs.«01_k».proof.Proof.Codes
public import proofs.«01_k».proof.Proof.Block

@[expose] public section

set_option maxRecDepth 16384

noncomputable section

namespace Cert.GateUp

open Idealize.ShloMosaic Idealize.ShloMosaic.Tactic
open Cert.KernelIdeal Cert.KernelIdeal.Gen

set_option maxHeartbeats 1000000 in
/-- At the first point, which converts the codes itself. -/
theorem pointA (c : Dev nD) (i : grid0.Coords) (arg1 : Memref sig .tc .vmem S2688x2048 .i8) (harg1 : arg1.IsWhole) (arg2 : Memref sig .tc .vmem S2688x128 .f32) (harg2 : arg2.IsWhole) (arg3 : Memref sig .tc .vmem S2688x128 .f32) (harg3 : arg3.IsWhole) (arg4 : Memref sig .tc .vmem S1x1024x256 .i8) (harg4 : arg4.IsWhole) (arg5 : Memref sig .tc .vmem S1x1024x256 .i8) (harg5 : arg5.IsWhole) (arg6 : Memref sig .tc .vmem S1x64x256 .f32) (harg6 : arg6.IsWhole) (arg7 : Memref sig .tc .vmem S1x64x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S768x256 .bf16) (harg10 : arg10.IsWhole) (arg11 : Memref sig .tc .vmem S2688x256 .f32) (harg11 : arg11.IsWhole) (arg12 : Memref sig .tc .vmem S2688x2048 .bf16) (harg12 : arg12.IsWhole) (arg13 : Memref sig .tc .vmem S2048x512 .bf16) (harg13 : arg13.IsWhole) (arg14 : Memref sig .tc .vmem S64x2x256 .bf16) (harg14 : arg14.IsWhole) (arg15 : Memref sig .tc .vmem S64x2x256 .bf16) (harg15 : arg15.IsWhole) (hc0 : cond0_0 i)
    (x0 : Vec Ideal S2688x2048 .i8) (x1 : Vec Ideal S2688x128 .f32) (x2 : Vec Ideal S2688x128 .f32) (x3 : Vec Ideal S1x1024x256 .i8) (x4 : Vec Ideal S1x1024x256 .i8) (x5 : Vec Ideal S1x64x256 .f32) (x6 : Vec Ideal S1x64x256 .f32) (x7 : Vec Ideal S1x1x256 .f32) (x8 : Vec Ideal S1x1x256 .f32) (x9 : Vec Ideal S768x256 .bf16)
    (a z : Fin 2688 → EReal) (ha : ∀ r l, x1 (ix2 r l) = a r) (hz : ∀ r l, x2 (ix2 r l) = z r)
    (hf : ∀ r j, blkHidden (codesF x0) (wScratch x3 x4 x5 x6) a z x7 x8 r j - blkHidden (codesF x0) (wScratch x3 x4 x5 x6) a z x7 x8 r j = 0) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = blkOut (codesF x0) (wScratch x3 x4 x5 x6) a z x7 x8 x9 := by
  have hcov : ∀ y, ∃ p ∈ pb_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 (harg1.unread x0) (Scf.trips k0_t1_loop.lb k0_t1_loop.ub k0_t1_loop.st), y ∈ p.1.set :=
    scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9
  have hcan : View.canon (pb_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 (harg1.unread x0) (Scf.trips k0_t1_loop.lb k0_t1_loop.ub k0_t1_loop.st)) = codesF x0 := by
    funext y
    exact View.canon_apply_of_pieces _ _ (codes_pieces Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 _ le_rfl).mem y (hcov y)
  have hcb : ∀ r : Rect S2688x2048, arg12.view.readCov (pb_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 (harg1.unread x0) (Scf.trips k0_t1_loop.lb k0_t1_loop.ub k0_t1_loop.st)) r.toLoadRect = View.ld (codesF x0) r := by
    intro r
    rw [View.readCov_eq_canon_ld _ _ _ hcov, hcan]
  have hc := cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9
  unfold out0_A_10
  rw [View.read_writes_eq_canon _ _ _ hc]
  revert hc
  unfold kernelRun0_A
  dsimp only
  simp only [kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_110, kernelRun0_A.sl.r_111, kernelRun0_A.sl.r_112, kernelRun0_A.sl.r_113, weightsA, hcb]
  simp (disch := decide) only [View.readAt_eq_ld, harg1.read_unread, harg2.read_unread, harg3.read_unread, harg8.read_unread, harg9.read_unread, harg10.read_unread, View.ld_unit_lit]
  intro hc
  funext y
  refine View.canon_apply_of_pieces _ _ (View.PiecesOf.mem ?_) y (hc y)
  clear hc
  unfold kernelRun0_A.sl.cst_898
  refine ⟨fun y => tile_block (codesF x0) (wScratch x3 x4 x5 x6) x1 x2 a z ha hz x7 x8 x9 hf 2304 (by decide) (by decide) y,
    fun y => tile_block (codesF x0) (wScratch x3 x4 x5 x6) x1 x2 a z ha hz x7 x8 x9 hf 1920 (by decide) (by decide) y,
    fun y => tile_block (codesF x0) (wScratch x3 x4 x5 x6) x1 x2 a z ha hz x7 x8 x9 hf 1536 (by decide) (by decide) y,
    fun y => tile_block (codesF x0) (wScratch x3 x4 x5 x6) x1 x2 a z ha hz x7 x8 x9 hf 1152 (by decide) (by decide) y,
    fun y => tile_block (codesF x0) (wScratch x3 x4 x5 x6) x1 x2 a z ha hz x7 x8 x9 hf 768 (by decide) (by decide) y,
    fun y => tile_block (codesF x0) (wScratch x3 x4 x5 x6) x1 x2 a z ha hz x7 x8 x9 hf 384 (by decide) (by decide) y,
    fun y => tile_block (codesF x0) (wScratch x3 x4 x5 x6) x1 x2 a z ha hz x7 x8 x9 hf 0 (by decide) (by decide) y, trivial⟩

/-- The first point leaves the codes, as numbers, in scratch. -/
theorem soutA (c : Dev nD) (i : grid0.Coords) (arg1 : Memref sig .tc .vmem S2688x2048 .i8) (harg1 : arg1.IsWhole) (arg2 : Memref sig .tc .vmem S2688x128 .f32) (harg2 : arg2.IsWhole) (arg3 : Memref sig .tc .vmem S2688x128 .f32) (harg3 : arg3.IsWhole) (arg4 : Memref sig .tc .vmem S1x1024x256 .i8) (harg4 : arg4.IsWhole) (arg5 : Memref sig .tc .vmem S1x1024x256 .i8) (harg5 : arg5.IsWhole) (arg6 : Memref sig .tc .vmem S1x64x256 .f32) (harg6 : arg6.IsWhole) (arg7 : Memref sig .tc .vmem S1x64x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S768x256 .bf16) (harg10 : arg10.IsWhole) (arg11 : Memref sig .tc .vmem S2688x256 .f32) (harg11 : arg11.IsWhole) (arg12 : Memref sig .tc .vmem S2688x2048 .bf16) (harg12 : arg12.IsWhole) (arg13 : Memref sig .tc .vmem S2048x512 .bf16) (harg13 : arg13.IsWhole) (arg14 : Memref sig .tc .vmem S64x2x256 .bf16) (harg14 : arg14.IsWhole) (arg15 : Memref sig .tc .vmem S64x2x256 .bf16) (harg15 : arg15.IsWhole) (hc0 : cond0_0 i)
    (x0 : Vec Ideal S2688x2048 .i8) (x1 : Vec Ideal S2688x128 .f32) (x2 : Vec Ideal S2688x128 .f32) (x3 : Vec Ideal S1x1024x256 .i8) (x4 : Vec Ideal S1x1024x256 .i8) (x5 : Vec Ideal S1x64x256 .f32) (x6 : Vec Ideal S1x64x256 .f32) (x7 : Vec Ideal S1x1x256 .f32) (x8 : Vec Ideal S1x1x256 .f32) (x9 : Vec Ideal S768x256 .bf16) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = codesF x0 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  funext y
  exact View.canon_apply_of_pieces _ _ (codes_pieces Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 _ le_rfl).mem y
    (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 y)

end Cert.GateUp
-- ==== Proof.WeightsB.lean ====
/-
  The scratch of widened weights read back: the 128 tiles a grid point stores leave the one array `wScratch`.
-/
module

public import proofs.«01_k».proof.Proof.Gen.KernelIdeal.Frame
public import proofs.«01_k».proof.Proof.Pieces

@[expose] public section

set_option maxRecDepth 16384

noncomputable section

namespace Cert.GateUp

open Idealize.ShloMosaic Idealize.ShloMosaic.Tactic
open Cert.KernelIdeal Cert.KernelIdeal.Gen

set_option maxHeartbeats 2000000 in
/-- Every tile stored at a later point is a block of the array of widened weights. -/
theorem piecesB (c : Dev nD) (a4 : Memref sig .tc .vmem S1x1024x256 .i8) (h4 : a4.IsWhole) (a5 : Memref sig .tc .vmem S1x1024x256 .i8) (h5 : a5.IsWhole)
    (a6 : Memref sig .tc .vmem S1x64x256 .f32) (h6 : a6.IsWhole) (a7 : Memref sig .tc .vmem S1x64x256 .f32) (h7 : a7.IsWhole)
    (a14 a15 : Memref sig .tc .vmem S64x2x256 .bf16)
    (x3 x4 : Vec Ideal S1x1024x256 .i8) (x5 x6 : Vec Ideal S1x64x256 .f32) :
    View.PiecesOf (wScratch x3 x4 x5 x6) (kernelRun0_B.sl.HS1_128 c a4 h4 a5 h5 a6 h6 a7 h7 a14 a15 x3 x4 x5 x6) := by
  have hPg : ∀ (j : Fin 64) (p : Fin 2) (n : Fin 256), k0_pay3 x5 (ix3 j p n) = x5 (ix3 0 j n) * (((1 : ℝ) / 16 : ℝ) : EReal) := packScales_apply x5
  have hPu : ∀ (j : Fin 64) (p : Fin 2) (n : Fin 256), k0_pay145 (k0_pay142 x6) (k0_pay143 x6) (ix3 j p n) = x6 (ix3 0 j n) * (((1 : ℝ) / 16 : ℝ) : EReal) :=
    packScales_apply x6
  sl_unfold_words
  simp (disch := decide) only [View.readCov_fill, View.readAt_eq_ld, h4.read_unread, h5.read_unread, h6.read_unread, h7.read_unread, View.ld_unit_lit,
    cut34, cut44, cut120, cut130]
  iterate 32
    refine ⟨fun y => hi_up hPu (by rfl) (by rfl) (by decide) (by decide) y, ?_⟩
    refine ⟨fun y => lo_up hPu (by rfl) (by decide) (by decide) y, ?_⟩
  iterate 32
    refine ⟨fun y => hi_gate hPg (by rfl) (by rfl) (by decide) (by decide) y, ?_⟩
    refine ⟨fun y => lo_gate hPg (by rfl) (by decide) (by decide) y, ?_⟩
  trivial

/-- What the products read of the scratch at a later point: the widened weights. -/
theorem weightsB (c : Dev nD) (a4 : Memref sig .tc .vmem S1x1024x256 .i8) (h4 : a4.IsWhole) (a5 : Memref sig .tc .vmem S1x1024x256 .i8) (h5 : a5.IsWhole)
    (a6 : Memref sig .tc .vmem S1x64x256 .f32) (h6 : a6.IsWhole) (a7 : Memref sig .tc .vmem S1x64x256 .f32) (h7 : a7.IsWhole)
    (a13 : Memref sig .tc .vmem S2048x512 .bf16) (a14 a15 : Memref sig .tc .vmem S64x2x256 .bf16)
    (x3 x4 : Vec Ideal S1x1024x256 .i8) (x5 x6 : Vec Ideal S1x64x256 .f32) :
    kernelRun0_B.sl.v1880 c a4 h4 a5 h5 a6 h6 a7 h7 a13 a14 a15 x3 x4 x5 x6 = wScratch x3 x4 x5 x6 := by
  unfold kernelRun0_B.sl.v1880
  have hc : ∀ y, ∃ pc ∈ (kernelRun0_B.sl.HS1_128 c a4 h4 a5 h5 a6 h6 a7 h7 a14 a15 x3 x4 x5 x6), y ∈ pc.1.set :=
    View.cover_of_tiledL _ S32x256.size (by sl_kernel_rfl)
  rw [View.readCov_eq_canon_ld _ _ _ hc, View.ld_unit_lit _ _ (by decide)]
  funext y
  exact View.canon_apply_of_pieces _ _ (piecesB c a4 h4 a5 h5 a6 h6 a7 h7 a14 a15 x3 x4 x5 x6).mem y (hc y)

end Cert.GateUp
-- ==== Proof.PointB.lean ====
/-
  What one grid point leaves in the result: its block, over the arrays the point reads.
-/
module

public import proofs.«01_k».proof.Proof.WeightsB
public import proofs.«01_k».proof.Proof.Codes
public import proofs.«01_k».proof.Proof.Block

@[expose] public section

set_option maxRecDepth 16384

noncomputable section

namespace Cert.GateUp

open Idealize.ShloMosaic Idealize.ShloMosaic.Tactic
open Cert.KernelIdeal Cert.KernelIdeal.Gen

set_option maxHeartbeats 1000000 in
/-- At a later point, the codes being what the point before left in scratch. -/
theorem pointB (c : Dev nD) (i : grid0.Coords) (arg1 : Memref sig .tc .vmem S2688x2048 .i8) (harg1 : arg1.IsWhole) (arg2 : Memref sig .tc .vmem S2688x128 .f32) (harg2 : arg2.IsWhole) (arg3 : Memref sig .tc .vmem S2688x128 .f32) (harg3 : arg3.IsWhole) (arg4 : Memref sig .tc .vmem S1x1024x256 .i8) (harg4 : arg4.IsWhole) (arg5 : Memref sig .tc .vmem S1x1024x256 .i8) (harg5 : arg5.IsWhole) (arg6 : Memref sig .tc .vmem S1x64x256 .f32) (harg6 : arg6.IsWhole) (arg7 : Memref sig .tc .vmem S1x64x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S768x256 .bf16) (harg10 : arg10.IsWhole) (arg11 : Memref sig .tc .vmem S2688x256 .f32) (harg11 : arg11.IsWhole) (arg12 : Memref sig .tc .vmem S2688x2048 .bf16) (harg12 : arg12.IsWhole) (arg13 : Memref sig .tc .vmem S2048x512 .bf16) (harg13 : arg13.IsWhole) (arg14 : Memref sig .tc .vmem S64x2x256 .bf16) (harg14 : arg14.IsWhole) (arg15 : Memref sig .tc .vmem S64x2x256 .bf16) (harg15 : arg15.IsWhole) (hc0 : ¬cond0_0 i)
    (x0 : Vec Ideal S2688x2048 .i8) (x1 : Vec Ideal S2688x128 .f32) (x2 : Vec Ideal S2688x128 .f32) (x3 : Vec Ideal S1x1024x256 .i8) (x4 : Vec Ideal S1x1024x256 .i8) (x5 : Vec Ideal S1x64x256 .f32) (x6 : Vec Ideal S1x64x256 .f32) (x7 : Vec Ideal S1x1x256 .f32) (x8 : Vec Ideal S1x1x256 .f32) (x9 : Vec Ideal S768x256 .bf16) (xs0 : Vec Ideal S2688x2048 .bf16)
    (a z : Fin 2688 → EReal) (ha : ∀ r l, x1 (ix2 r l) = a r) (hz : ∀ r l, x2 (ix2 r l) = z r)
    (hf : ∀ r j, blkHidden (xs0) (wScratch x3 x4 x5 x6) a z x7 x8 r j - blkHidden (xs0) (wScratch x3 x4 x5 x6) a z x7 x8 r j = 0) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 = blkOut (xs0) (wScratch x3 x4 x5 x6) a z x7 x8 x9 := by
  have hc := cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0
  unfold out0_B_10
  rw [View.read_writes_eq_canon _ _ _ hc]
  revert hc
  unfold kernelRun0_B
  dsimp only
  simp only [kernelRun0_B.sl.r_102, kernelRun0_B.sl.r_103, kernelRun0_B.sl.r_104, kernelRun0_B.sl.r_105, kernelRun0_B.sl.r_106, kernelRun0_B.sl.r_107, kernelRun0_B.sl.r_108, kernelRun0_B.sl.r_109, kernelRun0_B.sl.r_110, kernelRun0_B.sl.r_111, kernelRun0_B.sl.r_112, kernelRun0_B.sl.r_113, weightsB]
  simp (disch := decide) only [View.readAt_eq_ld, harg1.read_unread, harg2.read_unread, harg3.read_unread, harg8.read_unread, harg9.read_unread, harg10.read_unread, harg12.read_unread, View.ld_unit_lit]
  intro hc
  funext y
  refine View.canon_apply_of_pieces _ _ (View.PiecesOf.mem ?_) y (hc y)
  clear hc
  unfold kernelRun0_B.sl.cst_898
  refine ⟨fun y => tile_block xs0 (wScratch x3 x4 x5 x6) x1 x2 a z ha hz x7 x8 x9 hf 2304 (by decide) (by decide) y,
    fun y => tile_block xs0 (wScratch x3 x4 x5 x6) x1 x2 a z ha hz x7 x8 x9 hf 1920 (by decide) (by decide) y,
    fun y => tile_block xs0 (wScratch x3 x4 x5 x6) x1 x2 a z ha hz x7 x8 x9 hf 1536 (by decide) (by decide) y,
    fun y => tile_block xs0 (wScratch x3 x4 x5 x6) x1 x2 a z ha hz x7 x8 x9 hf 1152 (by decide) (by decide) y,
    fun y => tile_block xs0 (wScratch x3 x4 x5 x6) x1 x2 a z ha hz x7 x8 x9 hf 768 (by decide) (by decide) y,
    fun y => tile_block xs0 (wScratch x3 x4 x5 x6) x1 x2 a z ha hz x7 x8 x9 hf 384 (by decide) (by decide) y,
    fun y => tile_block xs0 (wScratch x3 x4 x5 x6) x1 x2 a z ha hz x7 x8 x9 hf 0 (by decide) (by decide) y, trivial⟩

end Cert.GateUp
-- ==== Proof.Spec.lean ====
/-
  What the call of a layer computes, entry by entry, over its arguments.
-/
module

public import proofs.«01_k».proof.Proof.Pieces
public import proofs.«01_k».proof.Proof.HTile

@[expose] public section

noncomputable section

namespace Cert.GateUp

open Idealize.ShloMosaic
open Cert.KernelIdeal Cert.KernelIdeal.Gen

/-- The widened weight in row `k` and column `j` of layer `l`: its four-bit number times the scale of its group. -/
def weight (l : Fin 2) (w : Vec Ideal S2x1024x16384 .i8) (ws : Vec Ideal S2x64x16384 .f32) (k : Fin 2048) (j : Fin 16384) : EReal :=
  ((nib k.val (w (ix3 l (⟨k.val % 1024, Nat.mod_lt _ (by decide)⟩ : Fin 1024) j)) : ℝ) : EReal)
    * ws (ix3 l (⟨k.val / 32, by have := k.isLt; omega⟩ : Fin 64) j)

/-- The product of row `r` of the codes with column `j` of the widened weights. -/
def accum (l : Fin 2) (cd : Vec Ideal S2688x2048 .i8) (w : Vec Ideal S2x1024x16384 .i8) (ws : Vec Ideal S2x64x16384 .f32) (r : Fin 2688) (j : Fin 16384) : EReal :=
  ∑ k : Fin 2048, ((((cd (ix2 r k)).toInt : ℝ)) : EReal) * weight l w ws k j

/-- The linear output in row `r` and column `j`: zero point and scale of the row applied to the product. -/
def linear (l : Fin 2) (cd : Vec Ideal S2688x2048 .i8) (a : Vec Ideal S2688 .f32) (z : Vec Ideal S2688 .i32) (w : Vec Ideal S2x1024x16384 .i8)
    (ws : Vec Ideal S2x64x16384 .f32) (wm : Vec Ideal S2x16384 .f32) (r : Fin 2688) (j : Fin 16384) : EReal :=
  lin (a (ix1 r)) (((z (ix1 r)).toInt : ℝ) : EReal) (wm (ix2 l j)) (accum l cd w ws r j)

/-- The hidden activation in row `r` and column `j`: the gate's column `j` against the up matrix's. -/
def hidden (l : Fin 2) (cd : Vec Ideal S2688x2048 .i8) (a : Vec Ideal S2688 .f32) (z : Vec Ideal S2688 .i32) (w : Vec Ideal S2x1024x16384 .i8)
    (ws : Vec Ideal S2x64x16384 .f32) (wm : Vec Ideal S2x16384 .f32) (r : Fin 2688) (j : Fin 8192) : EReal :=
  act (linear l cd a z w ws wm r ⟨j.val, by have := j.isLt; omega⟩) (linear l cd a z w ws wm r ⟨8192 + j.val, by have := j.isLt; omega⟩)

/-- The entry of the Hadamard matrix of side 256: one less twice the parity of the bits the two indices share. -/
def hadEntry (j n : Fin 256) : EReal :=
  (((IntOp.subi 1#32 (IntOp.muli 2#32 (IntOp.andi (IntOp.ctpop (IntOp.andi (BitVec.ofNat 32 j.val) (BitVec.ofNat 32 n.val))) 1#32))).toInt : ℝ) : EReal)

/-- The result in row `r` and column `n`: the 256 hidden activations of the column's block, rotated by the Hadamard matrix. -/
def gateUp (l : Fin 2) (cd : Vec Ideal S2688x2048 .i8) (a : Vec Ideal S2688 .f32) (z : Vec Ideal S2688 .i32) (w : Vec Ideal S2x1024x16384 .i8)
    (ws : Vec Ideal S2x64x16384 .f32) (wm : Vec Ideal S2x16384 .f32) (r : Fin 2688) (n : Fin 8192) : EReal :=
  ∑ j : Fin 256, hidden l cd a z w ws wm r ⟨256 * (n.val / 256) + j.val, by have := n.isLt; have := j.isLt; omega⟩
    * hadEntry j ⟨n.val % 256, Nat.mod_lt _ (by decide)⟩

end Cert.GateUp
-- ==== Proof.Blocks.lean ====
/-
  The blocks a grid point reads, entry by entry, over the call's arguments.
-/
module

public import proofs.«01_k».proof.Proof.Gen.KernelIdeal.Value
public import proofs.«01_k».proof.Proof.Spec
public import Idealize.ShloMosaic.Lib.Pipeline.ValueKit.Point

@[expose] public section

set_option maxRecDepth 16384

noncomputable section

namespace Cert.GateUp

open Idealize.ShloMosaic Idealize.ShloMosaic.TcCoe Idealize.ShloMosaic.Tactic
open Cert.KernelIdeal Cert.KernelIdeal.Gen

variable (m : (ℓ : Loc nD τ sig) → Buf (Elt Ideal) ℓ)

/-- Where each window's block lies at a point: whole arrays, or the point's block of columns of the gate or of the up matrix. -/
theorem idx : ∀ t : Fin cfg0.N, (win0_0.index t 0 = 0 ∧ win0_0.index t 1 = 0 ∧ win0_1.index t 0 = 0 ∧ win0_1.index t 1 = 0
    ∧ win0_2.index t 0 = 0 ∧ win0_2.index t 1 = 0) ∧ (win0_9.index t 0 = 0 ∧ win0_9.index t 1 = 0)
    ∧ (win0_3.index t 0 = 0 ∧ win0_3.index t 1 = 0 ∧ win0_3.index t 2 = t.val)
    ∧ (win0_4.index t 0 = 0 ∧ win0_4.index t 1 = 0 ∧ win0_4.index t 2 = 32 + t.val)
    ∧ (win0_5.index t 0 = 0 ∧ win0_5.index t 1 = 0 ∧ win0_5.index t 2 = t.val)
    ∧ (win0_6.index t 0 = 0 ∧ win0_6.index t 1 = 0 ∧ win0_6.index t 2 = 32 + t.val)
    ∧ (win0_7.index t 0 = 0 ∧ win0_7.index t 1 = 0 ∧ win0_7.index t 2 = t.val)
    ∧ (win0_8.index t 0 = 0 ∧ win0_8.index t 1 = 0 ∧ win0_8.index t 2 = 32 + t.val) :=
  (by decide +kernel : ∀ t : Fin grid0.N, _)

/-- The codes, whole. -/
theorem blk0 (c : Dev nD) (t : Fin cfg0.N) (r : Fin 2688) (k : Fin 2048) :
    (iblk m c 0 t : Vec Ideal S2688x2048 .i8) (ix2 r k) = m ((c : Thread nD τ).loc main_arg0) (ix2 r k) := by
  blk_ext! [iblk, V, idx t]

/-- The row scales, repeated along the lanes. -/
theorem blk1 (c : Dev nD) (t : Fin cfg0.N) (r : Fin 2688) (l : Fin 128) :
    (iblk m c 1 t : Vec Ideal S2688x128 .f32) (ix2 r l) = m ((c : Thread nD τ).loc main_arg1) (ix1 r) := by
  blk_ext! [iblk, V, idx t]

/-- The row zero points as numbers, repeated along the lanes. -/
theorem blk2 (c : Dev nD) (t : Fin cfg0.N) (r : Fin 2688) (l : Fin 128) :
    (iblk m c 2 t : Vec Ideal S2688x128 .f32) (ix2 r l) = (((m ((c : Thread nD τ).loc main_arg2) (ix1 r) : BitVec 32).toInt : ℝ) : EReal) := by
  blk_simp [iblk, idx t]
  entry_read
  pointwise
  have h0 : (((View.whole main_v21).slice (win0_2.rect t)).emb (ix2 r l) 0).val = win0_2.index t 0 * 2688 + 1 * r.val := rfl
  have h1 : ((View.whole main_v21).slice (win0_2.rect t)).emb (ix2 r l) 0 = r := Fin.ext (by rw [h0, (idx t).1.2.2.2.2.1]; omega)
  rw [h1]
  rfl

/-- The gate's bytes: the point's 256 columns. -/
theorem blk3 (c : Dev nD) (t : Fin cfg0.N) (k : Fin 1024) (n : Fin 256) (j : Fin 16384) (hj : j.val = 256 * t.val + n.val) :
    (iblk m c 3 t : Vec Ideal S1x1024x256 .i8) (ix3 0 k n) = m ((c : Thread nD τ).loc main_arg3) (ix3 0 k j) := by
  blk_ext! [iblk, V, idx t]

/-- The up matrix's bytes: the point's 256 columns. -/
theorem blk4 (c : Dev nD) (t : Fin cfg0.N) (k : Fin 1024) (n : Fin 256) (j : Fin 16384) (hj : j.val = 8192 + 256 * t.val + n.val) :
    (iblk m c 4 t : Vec Ideal S1x1024x256 .i8) (ix3 0 k n) = m ((c : Thread nD τ).loc main_arg3) (ix3 0 k j) := by
  blk_ext! [iblk, V, idx t]

/-- The gate's group scales: the point's 256 columns. -/
theorem blk5 (c : Dev nD) (t : Fin cfg0.N) (k : Fin 64) (n : Fin 256) (j : Fin 16384) (hj : j.val = 256 * t.val + n.val) :
    (iblk m c 5 t : Vec Ideal S1x64x256 .f32) (ix3 0 k n) = m ((c : Thread nD τ).loc main_arg4) (ix3 0 k j) := by
  blk_ext! [iblk, V, idx t]

/-- The up matrix's group scales: the point's 256 columns. -/
theorem blk6 (c : Dev nD) (t : Fin cfg0.N) (k : Fin 64) (n : Fin 256) (j : Fin 16384) (hj : j.val = 8192 + 256 * t.val + n.val) :
    (iblk m c 6 t : Vec Ideal S1x64x256 .f32) (ix3 0 k n) = m ((c : Thread nD τ).loc main_arg4) (ix3 0 k j) := by
  blk_ext! [iblk, V, idx t]

/-- The gate's column sums: the point's 256 columns. -/
theorem blk7 (c : Dev nD) (t : Fin cfg0.N) (n : Fin 256) (j : Fin 16384) (hj : j.val = 256 * t.val + n.val) :
    (iblk m c 7 t : Vec Ideal S1x1x256 .f32) (ix3 0 0 n) = m ((c : Thread nD τ).loc main_arg5) (ix2 0 j) := by
  blk_ext! [iblk, V, idx t]

/-- The up matrix's column sums: the point's 256 columns. -/
theorem blk8 (c : Dev nD) (t : Fin cfg0.N) (n : Fin 256) (j : Fin 16384) (hj : j.val = 8192 + 256 * t.val + n.val) :
    (iblk m c 8 t : Vec Ideal S1x1x256 .f32) (ix3 0 0 n) = m ((c : Thread nD τ).loc main_arg5) (ix2 0 j) := by
  blk_ext! [iblk, V, idx t]

/-- The Hadamard matrix: the first of the three copies. -/
theorem blk9 (c : Dev nD) (t : Fin cfg0.N) (j : Fin 768) (n : Fin 256) (q : Fin 256) (hq : j.val = q.val) :
    (iblk m c 9 t : Vec Ideal S768x256 .bf16) (ix2 j n) = hadEntry q n := by
  blk_simp [iblk, idx t]
  entry_read
  pointwise
  have h0 : (((View.whole main_v16).slice (win0_9.rect t)).emb (ix2 j n) 0).val = win0_9.index t 0 * 768 + 1 * j.val := rfl
  have h1 : (((View.whole main_v16).slice (win0_9.rect t)).emb (ix2 j n) 1).val = win0_9.index t 1 * 256 + 1 * n.val := rfl
  have hq' := q.isLt
  rw [h0, h1, (idx t).2.1.1, (idx t).2.1.2, show (0 * 768 + 1 * j.val) % 256 = q.val by omega, show 0 * 256 + 1 * n.val = n.val by omega]
  rfl

end Cert.GateUp
-- ==== Proof.Finite.lean ====
/-
  Finite numbers: what stays finite, and so cancels against itself.
-/
module

public import proofs.«01_k».proof.Proof.Spec

@[expose] public section

noncomputable section

namespace Cert.GateUp

open Idealize.ShloMosaic
open Cert.KernelIdeal Cert.KernelIdeal.Gen

/-- A number that is neither infinite. -/
def IsNum (x : EReal) : Prop := ∃ r : ℝ, x = (r : EReal)

theorem IsNum.coe (r : ℝ) : IsNum (r : EReal) := ⟨r, rfl⟩

theorem IsNum.mul {x y : EReal} (hx : IsNum x) (hy : IsNum y) : IsNum (x * y) := by
  obtain ⟨a, rfl⟩ := hx; obtain ⟨b, rfl⟩ := hy; exact ⟨a * b, (EReal.coe_mul a b).symm⟩

theorem IsNum.add {x y : EReal} (hx : IsNum x) (hy : IsNum y) : IsNum (x + y) := by
  obtain ⟨a, rfl⟩ := hx; obtain ⟨b, rfl⟩ := hy; exact ⟨a + b, (EReal.coe_add a b).symm⟩

theorem IsNum.sub {x y : EReal} (hx : IsNum x) (hy : IsNum y) : IsNum (x - y) := by
  obtain ⟨a, rfl⟩ := hx; obtain ⟨b, rfl⟩ := hy; exact ⟨a - b, (EReal.coe_sub a b).symm⟩

/-- A sum of finitely many numbers. -/
theorem IsNum.sum {ι : Type} (s : Finset ι) (f : ι → EReal) (h : ∀ i, IsNum (f i)) : IsNum (∑ i ∈ s, f i) := by
  classical
  induction s using Finset.induction_on with
  | empty => exact ⟨0, by simp⟩
  | insert i s hi ih => rw [Finset.sum_insert hi]; exact (h i).add ih

/-- A number cancels against itself. -/
theorem IsNum.sub_self {x : EReal} (h : IsNum x) : x - x = 0 := by
  obtain ⟨a, rfl⟩ := h
  exact EReal.sub_self (EReal.coe_ne_top a) (EReal.coe_ne_bot a)

/-- The logistic function of a number. -/
theorem IsNum.logistic {x : EReal} (h : IsNum x) : IsNum (Ideal.logistic x) := by
  obtain ⟨a, rfl⟩ := h
  exact ⟨_, Ideal.logistic_coe a⟩

/-- The linear output is a number. -/
theorem IsNum.lin {a z m acc : EReal} (ha : IsNum a) (hz : IsNum z) (hm : IsNum m) (hacc : IsNum acc) : IsNum (lin a z m acc) :=
  ha.mul (hacc.sub (hz.mul hm))

/-- The activation is a number. -/
theorem IsNum.act {g u : EReal} (hg : IsNum g) (hu : IsNum u) : IsNum (act g u) :=
  (hg.mul hg.logistic).mul hu

/-- With the row scales, the group scales and the column sums of a layer finite, so is every hidden activation. -/
theorem hidden_isNum (l : Fin 2) (cd : Vec Ideal S2688x2048 .i8) (a : Vec Ideal S2688 .f32) (z : Vec Ideal S2688 .i32) (w : Vec Ideal S2x1024x16384 .i8)
    (ws : Vec Ideal S2x64x16384 .f32) (wm : Vec Ideal S2x16384 .f32) (ha : ∀ r, IsNum (a (ix1 r)))
    (hws : ∀ k j, IsNum (ws (ix3 l k j))) (hwm : ∀ j, IsNum (wm (ix2 l j))) (r : Fin 2688) (j : Fin 8192) :
    IsNum (hidden l cd a z w ws wm r j) := by
  have hacc : ∀ j, IsNum (accum l cd w ws r j) := fun j =>
    IsNum.sum _ _ fun k => (IsNum.coe _).mul ((IsNum.coe _).mul (hws _ _))
  exact IsNum.act (IsNum.lin (ha _) (IsNum.coe _) (hwm _) (hacc _)) (IsNum.lin (ha _) (IsNum.coe _) (hwm _) (hacc _))

end Cert.GateUp
-- ==== Proof.Layer.lean ====
/-
  One grid point of a layer's call: from the blocks it reads, as blocks of the layer's arguments, its block of the result.
-/
module

public import proofs.«01_k».proof.Proof.Spec
public import proofs.«01_k».proof.Proof.Codes
public import proofs.«01_k».proof.Proof.Block
public import proofs.«01_k».proof.Proof.Finite

@[expose] public section

noncomputable section

namespace Cert.GateUp

open Idealize.ShloMosaic
open Cert.KernelIdeal Cert.KernelIdeal.Gen

/-- What is asked of a layer's arguments: the row scales, the group scales and the column sums are finite. -/
structure Finite (l : Fin 2) (sc : Vec Ideal S2688 .f32) (ws : Vec Ideal S2x64x16384 .f32) (wm : Vec Ideal S2x16384 .f32) : Prop where
  scale : ∀ r, IsNum (sc (ix1 r))
  group : ∀ k j, IsNum (ws (ix3 l k j))
  sums : ∀ j, IsNum (wm (ix2 l j))

/-- The blocks read at point `t` of the call of layer `l`: 256 columns of the gate's weights, group scales and sums, the same of
    the up matrix's, and the Hadamard matrix. -/
structure Reads (l : Fin 2) (t : ℕ) (w : Vec Ideal S2x1024x16384 .i8) (ws : Vec Ideal S2x64x16384 .f32) (wm : Vec Ideal S2x16384 .f32)
    (x3 x4 : Vec Ideal S1x1024x256 .i8) (x5 x6 : Vec Ideal S1x64x256 .f32) (x7 x8 : Vec Ideal S1x1x256 .f32) (x9 : Vec Ideal S768x256 .bf16) : Prop where
  gate : ∀ (k : Fin 1024) (n : Fin 256) (j : Fin 16384), j.val = 256 * t + n.val → x3 (ix3 0 k n) = w (ix3 l k j)
  up : ∀ (k : Fin 1024) (n : Fin 256) (j : Fin 16384), j.val = 8192 + 256 * t + n.val → x4 (ix3 0 k n) = w (ix3 l k j)
  gateScale : ∀ (k : Fin 64) (n : Fin 256) (j : Fin 16384), j.val = 256 * t + n.val → x5 (ix3 0 k n) = ws (ix3 l k j)
  upScale : ∀ (k : Fin 64) (n : Fin 256) (j : Fin 16384), j.val = 8192 + 256 * t + n.val → x6 (ix3 0 k n) = ws (ix3 l k j)
  gateSum : ∀ (n : Fin 256) (j : Fin 16384), j.val = 256 * t + n.val → x7 (ix3 0 0 n) = wm (ix2 l j)
  upSum : ∀ (n : Fin 256) (j : Fin 16384), j.val = 8192 + 256 * t + n.val → x8 (ix3 0 0 n) = wm (ix2 l j)
  hadamard : ∀ (j : Fin 768) (n q : Fin 256), j.val = q.val → x9 (ix2 j n) = hadEntry q n

namespace Reads

variable {l : Fin 2} {t : ℕ} {w : Vec Ideal S2x1024x16384 .i8} {ws : Vec Ideal S2x64x16384 .f32} {wm : Vec Ideal S2x16384 .f32}
  {x3 x4 : Vec Ideal S1x1024x256 .i8} {x5 x6 : Vec Ideal S1x64x256 .f32} {x7 x8 : Vec Ideal S1x1x256 .f32} {x9 : Vec Ideal S768x256 .bf16}
  (h : Reads l t w ws wm x3 x4 x5 x6 x7 x8 x9) (cd : Vec Ideal S2688x2048 .i8) (sc : Vec Ideal S2688 .f32) (zp : Vec Ideal S2688 .i32)

include h

/-- The point's weights in scratch, times the codes: the product with the gate's column. -/
theorem accum_gate (r : Fin 2688) (j : Fin 256) (q : Fin 16384) (hq : q.val = 256 * t + j.val) :
    ∑ k : Fin 2048, codesF cd (ix2 r k) * wScratch x3 x4 x5 x6 (ix2 k (⟨j.val, by have := j.isLt; omega⟩ : Fin 512)) = accum l cd w ws r q := by
  refine Finset.sum_congr rfl fun k _ => congrArg (codesF cd (ix2 r k) * ·) ?_
  unfold wScratch
  refine (dif_pos (show j.val < 256 from j.isLt)).trans ?_
  show wide x3 x5 k j = weight l w ws k q
  unfold wide weight
  rw [h.gate _ _ q hq, h.gateScale _ _ q hq]

/-- The point's weights in scratch, times the codes: the product with the up matrix's column. -/
theorem accum_up (r : Fin 2688) (j : Fin 256) (q : Fin 16384) (hq : q.val = 8192 + 256 * t + j.val) :
    ∑ k : Fin 2048, codesF cd (ix2 r k) * wScratch x3 x4 x5 x6 (ix2 k (⟨256 + j.val, by have := j.isLt; omega⟩ : Fin 512)) = accum l cd w ws r q := by
  refine Finset.sum_congr rfl fun k _ => congrArg (codesF cd (ix2 r k) * ·) ?_
  unfold wScratch
  refine (dif_neg (show ¬256 + j.val < 256 by omega)).trans ?_
  refine (congrArg (wide x4 x6 k) (Fin.ext (Nat.add_sub_cancel_left ..) : (_ : Fin 256) = j)).trans ?_
  unfold wide weight
  rw [h.up _ _ q hq, h.upScale _ _ q hq]

/-- The point's hidden activations are the columns `256 t … 256 t + 255` of the hidden activations. -/
theorem hidden_eq (ht : t < 32) (r : Fin 2688) (j : Fin 256) (q : Fin 8192) (hq : q.val = 256 * t + j.val) :
    blkHidden (codesF cd) (wScratch x3 x4 x5 x6) (fun r => sc (ix1 r)) (fun r => (((zp (ix1 r)).toInt : ℝ) : EReal)) x7 x8 r j
      = hidden l cd sc zp w ws wm r q := by
  have hq1 := q.isLt
  unfold blkHidden hidden linear
  rw [h.accum_gate cd r j ⟨q.val, by omega⟩ hq, h.accum_up cd r j ⟨8192 + q.val, by omega⟩ (by dsimp only; omega),
    h.gateSum j ⟨q.val, by omega⟩ hq, h.upSum j ⟨8192 + q.val, by omega⟩ (by dsimp only; omega)]

/-- The arguments being finite, the point's hidden activations cancel against themselves. -/
theorem sub_self (ht : t < 32) (hf : Finite l sc ws wm) (r : Fin 2688) (j : Fin 256) :
    blkHidden (codesF cd) (wScratch x3 x4 x5 x6) (fun r => sc (ix1 r)) (fun r => (((zp (ix1 r)).toInt : ℝ) : EReal)) x7 x8 r j
      - blkHidden (codesF cd) (wScratch x3 x4 x5 x6) (fun r => sc (ix1 r)) (fun r => (((zp (ix1 r)).toInt : ℝ) : EReal)) x7 x8 r j = 0 := by
  have hj := j.isLt
  rw [h.hidden_eq cd sc zp ht r j ⟨256 * t + j.val, by omega⟩ rfl]
  exact (hidden_isNum _ _ _ _ _ _ _ hf.scale hf.group hf.sums r _).sub_self

/-- The point's block is a block of the result. -/
theorem out_eq (ht : t < 32) (y : S2688x256.Idx) (r : Fin 2688) (n : Fin 8192) (hr : (y 0 : Fin 2688) = r) (hn : n.val / 256 = t)
    (hy : (y 1).val = n.val % 256) :
    blkOut (codesF cd) (wScratch x3 x4 x5 x6) (fun r => sc (ix1 r)) (fun r => (((zp (ix1 r)).toInt : ℝ) : EReal)) x7 x8 x9 y
      = gateUp l cd sc zp w ws wm r n := by
  subst hr
  subst hn
  refine Finset.sum_congr (M := EReal) rfl fun j _ => ?_
  have hj := j.isLt
  refine congrArg₂ (· * ·) (h.hidden_eq cd sc zp ht _ j _ rfl) ?_
  refine (h.hadamard _ _ j rfl).trans (congrArg (hadEntry j) (Fin.ext hy))

end Reads

end Cert.GateUp
-- ==== Proof.Array.lean ====
/-
  The result array after the run: every entry is `gateUp` of the first layer's arguments.
-/
module

public import proofs.«01_k».proof.Proof.PointA
public import proofs.«01_k».proof.Proof.PointB
public import proofs.«01_k».proof.Proof.Blocks
public import proofs.«01_k».proof.Proof.Layer

@[expose] public section

set_option maxRecDepth 16384

noncomputable section

namespace Cert.GateUp

open Idealize.ShloMosaic Idealize.ShloMosaic.TcCoe Idealize.ShloMosaic.Tactic
open Cert.KernelIdeal Cert.KernelIdeal.Gen Cert.KernelIdeal.Value

variable (m : (ℓ : Loc nD τ sig) → Buf (Elt Ideal) ℓ)

/-- The codes. -/
abbrev cdOf (c : Dev nD) : Vec Ideal S2688x2048 .i8 := m ((c : Thread nD τ).loc main_arg0)
/-- The row scales. -/
abbrev scOf (c : Dev nD) : Vec Ideal S2688 .f32 := m ((c : Thread nD τ).loc main_arg1)
/-- The row zero points. -/
abbrev zpOf (c : Dev nD) : Vec Ideal S2688 .i32 := m ((c : Thread nD τ).loc main_arg2)
/-- The packed weights of both layers. -/
abbrev wOf (c : Dev nD) : Vec Ideal S2x1024x16384 .i8 := m ((c : Thread nD τ).loc main_arg3)
/-- The group scales of both layers. -/
abbrev wsOf (c : Dev nD) : Vec Ideal S2x64x16384 .f32 := m ((c : Thread nD τ).loc main_arg4)
/-- The column sums of both layers. -/
abbrev wmOf (c : Dev nD) : Vec Ideal S2x16384 .f32 := m ((c : Thread nD τ).loc main_arg5)

/-- The block of codes is the array of codes. -/
theorem codes_blk (c : Dev nD) (t : Fin cfg0.N) : (iblk m c 0 t : Vec Ideal S2688x2048 .i8) = cdOf m c :=
  funext fun y => by rw [eq_ix2 y]; exact blk0 m c t _ _

/-- After every point the scratch holds the codes as numbers. -/
theorem carried (c : Dev nD) : ∀ (n : ℕ) (hn : n < cfg0.N), (outsAt0 m c n hn).2 = codesF (cdOf m c)
  | 0, hn => by
    rw [outsAt0_A m c ⟨0, hn⟩ rfl]
    dsimp only
    rw [soutA, codes_blk]
  | n + 1, hn => by
    have h32 : n + 1 < 32 := lt_of_lt_of_eq hn (show cfg0.N = 32 from N_0)
    rw [outsAt0_B m c ⟨n + 1, hn⟩ (by dsimp only; omega)]
    dsimp only
    exact carried c n _

/-- The blocks that a point reads. -/
theorem reads (c : Dev nD) (t : Fin cfg0.N) : Reads 0 t.val (wOf m c) (wsOf m c) (wmOf m c) (iblk m c 3 t) (iblk m c 4 t) (iblk m c 5 t)
    (iblk m c 6 t) (iblk m c 7 t) (iblk m c 8 t) (iblk m c 9 t) :=
  ⟨blk3 m c t, blk4 m c t, blk5 m c t, blk6 m c t, blk7 m c t, blk8 m c t, blk9 m c t⟩

/-- What every point leaves in its block of the result. -/
theorem point (c : Dev nD) (h : Finite 0 (scOf m c) (wsOf m c) (wmOf m c)) (t : Fin cfg0.N) : (outsAt0 m c t.val t.isLt).1
    = blkOut (codesF (cdOf m c)) (wScratch (iblk m c 3 t) (iblk m c 4 t) (iblk m c 5 t) (iblk m c 6 t))
      (fun r => scOf m c (ix1 r)) (fun r => (((zpOf m c (ix1 r)).toInt : ℝ) : EReal)) (iblk m c 7 t) (iblk m c 8 t) (iblk m c 9 t) := by
  have h32 : t.val < 32 := lt_of_lt_of_eq t.isLt (show cfg0.N = 32 from N_0)
  have hf := (reads m c t).sub_self (cdOf m c) (scOf m c) (zpOf m c) h32 h
  by_cases h0 : t.val % 32 = 0
  · rw [outsAt0_A m c t h0]
    dsimp only
    have e := codes_blk m c t
    refine (pointA _ _ _ _ _ _ _ _ _ _ _ _ _ _ _ _ _ _ _ _ _ _ _ _ _ _ _ _ _ _ _ _ _ (iblk m c 0 t) (iblk m c 1 t) (iblk m c 2 t)
      (iblk m c 3 t) (iblk m c 4 t) (iblk m c 5 t) (iblk m c 6 t) (iblk m c 7 t) (iblk m c 8 t) (iblk m c 9 t)
      (fun r => scOf m c (ix1 r)) (fun r => (((zpOf m c (ix1 r)).toInt : ℝ) : EReal)) (blk1 m c t) (blk2 m c t) ?_).trans ?_
    · rw [e]; exact hf
    · rw [e]
  · rw [outsAt0_B m c t h0]
    dsimp only
    rw [carried]
    exact pointB _ _ _ _ _ _ _ _ _ _ _ _ _ _ _ _ _ _ _ _ _ _ _ _ _ _ _ _ _ _ _ _ _ (iblk m c 0 t) (iblk m c 1 t) (iblk m c 2 t)
      (iblk m c 3 t) (iblk m c 4 t) (iblk m c 5 t) (iblk m c 6 t) (iblk m c 7 t) (iblk m c 8 t) (iblk m c 9 t) (codesF (cdOf m c))
      (fun r => scOf m c (ix1 r)) (fun r => (((zpOf m c (ix1 r)).toInt : ℝ) : EReal)) (blk1 m c t) (blk2 m c t) hf

/-- The array after the run, entry by entry. -/
theorem array (c : Dev nD) (h : Finite 0 (scOf m c) (wsOf m c) (wmOf m c)) (r : Fin 2688) (n : Fin 8192) :
    G10 m c (ix2 r n) = gateUp 0 (cdOf m c) (scOf m c) (zpOf m c) (wOf m c) (wsOf m c) (wmOf m c) r n := by
  have hr := r.isLt
  have hn := n.isLt
  have hN : cfg0.N = 32 := N_0
  have hp : pt10Of (ix2 r n) = n.val / 256 := by
    show 32 * (r.val / 2688 - 0) + 1 * (n.val / 256 - 0) = n.val / 256
    omega
  unfold G10
  rw [dif_pos (by rw [hp, hN]; omega), fold0_congr m c _ _ (n.val / 256) (by rw [hN]; omega) hp,
    ← outsAt0_sweep m c (n.val / 256) (by rw [hN]; omega), point m c h ⟨n.val / 256, by rw [hN]; omega⟩]
  exact (reads m c ⟨n.val / 256, by rw [hN]; omega⟩).out_eq (cdOf m c) (scOf m c) (zpOf m c) (by dsimp only; omega) _ r n
    (Fin.ext (Nat.mod_eq_of_lt hr)) rfl rfl

end Cert.GateUp
-- ==== Proof.Ref.lean ====
/-
  The reference read entry by entry: it holds `gateUp` of its arguments.
-/
module

public import proofs.«01_k».proof.Proof.Gen.ReferenceIdeal.Read
public import proofs.«01_k».proof.Proof.Spec

@[expose] public section

noncomputable section

namespace Cert.GateUp.Ref

open Idealize.ShloMosaic Idealize.ShloMosaic.StableHlo
open Cert.ReferenceIdeal Cert.ReferenceIdeal.Gen Cert.ReferenceIdeal.Read

variable (x0 : Vec Ideal S2688x2048 .i8) (x1 : Vec Ideal S2688 .f32) (x2 : Vec Ideal S2688 .i32) (x3 : Vec Ideal S2x1024x16384 .i8)
  (x4 : Vec Ideal S2x64x16384 .f32) (x5 : Vec Ideal S2x16384 .f32)

/-- The first 1024 rows of the widened weights. -/
theorem low_apply (k : Fin 1024) (j : Fin 16384) :
    val_main_v18 (F := Ideal) x3 x4 (ix2 k j) = weight 0 x3 x4 ⟨k.val, by have := k.isLt; omega⟩ j := by
  have hk := k.isLt
  unfold val_main_v18 val_main_v17 val_main_v16 val_main_v15 val_main_v14 val_main_v13 val_main_v12 val_main_v11 val_main_v10 val_main_v9 val_main_v8 val_main_v7 val_main_v6 val_main_v3 val_main_v2 val_main_v1 val_main_v0 val_main_c val_main_c_0
  pointwise
  unfold weight nib
  rw [if_pos (by exact hk)]
  have e1 : k.val % 1024 = k.val := by omega
  simp only [e1]
  rfl

/-- The last 1024 rows of the widened weights. -/
theorem high_apply (k : Fin 1024) (j : Fin 16384) :
    val_main_v30 (F := Ideal) x3 x4 (ix2 k j) = weight 0 x3 x4 ⟨1024 + k.val, by have := k.isLt; omega⟩ j := by
  have hk := k.isLt
  unfold val_main_v30 val_main_v29 val_main_v28 val_main_v27 val_main_v26 val_main_v25 val_main_v24 val_main_v23 val_main_v22 val_main_v21 val_main_v20 val_main_v19 val_main_v6 val_main_v3 val_main_v2 val_main_v1 val_main_v0 val_main_c_1 val_main_c_2
  pointwise
  unfold weight nib
  rw [if_neg (by show ¬ 1024 + k.val < 1024; omega)]
  have e1 : (1024 + k.val) % 1024 = k.val := by omega
  have e2 : (1024 + k.val) / 32 = 32 + k.val / 32 := by omega
  simp only [e1, e2]
  rfl

/-- The product over the two halves is the product over all 2048 rows. -/
theorem accum_apply (r : Fin 2688) (j : Fin 16384) : val_main_v37 (F := Ideal) x0 x3 x4 (ix2 r j) = accum 0 x0 x3 x4 r j := by
  unfold val_main_v37 val_main_v36 val_main_v34 val_main_v35 val_main_v33 val_main_v32 val_main_v31
  have hl := low_apply x3 x4
  have hh := high_apply x3 x4
  generalize val_main_v18 (F := Ideal) x3 x4 = wl at hl ⊢
  generalize val_main_v30 (F := Ideal) x3 x4 = wh at hh ⊢
  pointwise
  unfold accum
  refine Eq.trans ?_ (Fin.sum_univ_add (M := EReal) (a := 1024) (b := 1024) _).symm
  refine congrArg₂ _ (Finset.sum_congr rfl fun k _ => ?_) (Finset.sum_congr rfl fun k _ => ?_)
  · rw [hl k j]
    show ((((x0 (ix2 r ⟨k.val, _⟩)).signExtend 32).toInt : ℝ) : EReal) * _ = _
    rw [BitVec.toInt_signExtend_of_le (by decide)]
    rfl
  · rw [hh k j]
    show ((((x0 (ix2 r ⟨1024 + k.val, _⟩)).signExtend 32).toInt : ℝ) : EReal) * _ = _
    rw [BitVec.toInt_signExtend_of_le (by decide)]
    rfl

/-- The linear output. -/
theorem linear_apply (r : Fin 2688) (j : Fin 16384) : val_main_v47 (F := Ideal) x0 x1 x2 x3 x4 x5 (ix2 r j) = linear 0 x0 x1 x2 x3 x4 x5 r j := by
  unfold val_main_v47 val_main_v46 val_main_v45 val_main_v44 val_main_v43 val_main_v42 val_main_v41 val_main_v40 val_main_v39 val_main_v38 val_main_v5 val_main_v4
  have h := accum_apply x0 x3 x4
  generalize val_main_v37 (F := Ideal) x0 x3 x4 = a at h ⊢
  pointwise
  rw [h]
  rfl

/-- The hidden activations. -/
theorem hidden_apply (r : Fin 2688) (j : Fin 8192) : val_main_v57 (F := Ideal) x0 x1 x2 x3 x4 x5 (ix2 r j) = hidden 0 x0 x1 x2 x3 x4 x5 r j := by
  unfold val_main_v57 val_main_v56 val_main_v55 val_main_v54 val_main_v53 val_main_v52 val_main_v51 val_main_v50 val_main_v49 val_main_v48 val_main_cst val_main_cst_3
  have h := linear_apply x0 x1 x2 x3 x4 x5
  generalize val_main_v47 (F := Ideal) x0 x1 x2 x3 x4 x5 = a at h ⊢
  pointwise
  rw [h, h]
  rfl

/-- The Hadamard matrix. -/
theorem had_apply (j n : Fin 256) : val_main_v72 (F := Ideal) (ix2 j n) = hadEntry j n := by
  unfold val_main_v72 val_main_v71 val_main_v70 val_main_v69 val_main_v68 val_main_v67 val_main_v66 val_main_v65 val_main_v64 val_main_v63 val_main_v62 val_main_v61 val_main_v60 val_main_v59 val_main_c_4 val_main_c_5 val_main_c_6
  pointwise
  rfl

/-- The reference's result. -/
theorem result_apply (r : Fin 2688) (n : Fin 8192) : val_main_v74 (F := Ideal) x0 x1 x2 x3 x4 x5 (ix2 r n) = gateUp 0 x0 x1 x2 x3 x4 x5 r n := by
  unfold val_main_v74 val_main_v73 val_main_v58
  have h := hidden_apply x0 x1 x2 x3 x4 x5
  have hh := had_apply
  generalize val_main_v57 (F := Ideal) x0 x1 x2 x3 x4 x5 = a at h ⊢
  generalize val_main_v72 (F := Ideal) = b at hh ⊢
  pointwise
  refine Finset.sum_congr rfl fun j _ => ?_
  rw [h, hh]
  congr 2
  apply Fin.ext
  show n.val / 256 * 256 + j.val = 256 * (n.val / 256) + j.val
  omega

end Cert.GateUp.Ref
-- ==== Proof.Equation.lean ====
/-
  The value claim: the kernel's result is the reference's, the arguments being finite where they must be.
-/
module

public import proofs.«01_k».proof.Defs
public import proofs.«01_k».proof.Proof.Array
public import proofs.«01_k».proof.Proof.Ref

@[expose] public section

set_option maxRecDepth 16384

noncomputable section

namespace Cert.GateUp

open Idealize.ShloMosaic Idealize.ShloMosaic.TcCoe Idealize.SL.Sem

/-- The side conditions of the precondition's program. -/
theorem preFacts : Cert.Pre_finite.Facts where
  bcast_S_S2688 := by decide
  slices_S2x64x16384_S1x64x16384_0_0_0 := by decide
  shapeCasts_S1x64x16384_S64x16384 := by decide
  bcast_S_S64x16384 := by decide
  slices_S2x16384_S1x16384_0_0 := by decide
  shapeCasts_S1x16384_S16384 := by decide
  bcast_S_S16384 := by decide

/-- What passes the test "its magnitude is below infinity" is a number. -/
theorem isNum_of_test (x : EReal)
    (h : FloatOps.cmpf (F := Ideal) (φ := .f32) .olt (FloatOps.hostAbsf (F := Ideal) (φ := .f32) x) (FloatOps.ofBits (F := Ideal) .f32 0x7F800000#32) = 1#1) :
    IsNum x := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  unfold Ideal.cmp at h'
  have hlt : max x (-x) < ⊤ := by
    by_contra hn
    simp [hn] at h'
  induction x using EReal.rec with
  | bot => simp at hlt
  | top => simp at hlt
  | coe a => exact ⟨a, rfl⟩

/-- The precondition gives what the value proof needs of the arguments. -/
theorem finite_of_pre (m : (ℓ : Loc Cert.KernelIdeal.nD Cert.KernelIdeal.τ Cert.KernelIdeal.sig) → Buf (Elt Ideal) ℓ)
    (h : Cert.Pre_KernelIdeal_finite (hPre_finite := preFacts) m) (c : Dev Cert.KernelIdeal.nD) : Finite 0 (scOf m c) (wsOf m c) (wmOf m c) where
  scale r := by
    have e := congrFun (h c).1 (ix1 r)
    unfold Cert.Pre_finite.fn at e
    dsimp only at e
    pointwise at e
    exact isNum_of_test _ e
  group k j := by
    have e := congrFun (h c).2.1 (ix2 k j)
    unfold Cert.Pre_finite.fn at e
    dsimp only at e
    pointwise at e
    exact isNum_of_test _ e
  sums j := by
    have e := congrFun (h c).2.2 (ix1 j)
    unfold Cert.Pre_finite.fn at e
    dsimp only at e
    pointwise at e
    exact isNum_of_test _ e

/-- The kernel and the reference end with equal results. -/
theorem algebraic : Cert.algebraic_KernelIdeal_ReferenceIdeal_pre_finite (hKernelIdeal := Cert.KernelIdeal.Gen.facts)
    (hReferenceIdeal := Cert.ReferenceIdeal.Gen.facts) (hPre_finite := preFacts) := by
  intro m g m' g' hpre hargs
  refine ⟨fun c => Cert.KernelIdeal.Value.G10 m c, Cert.KernelIdeal.Value.run m g, ?_⟩
  refine (θ_run (Cert.ReferenceIdeal.defs (F := Ideal)) _ _).mono (fun r h c => ?_) (Cert.ReferenceIdeal.Value.run (F := Ideal) m' g')
  obtain ⟨hv, hk⟩ := h c
  refine ⟨hv.trans ?_, hk⟩
  obtain ⟨a0, a1, a2, a3, a4, a5⟩ := hargs c
  rw [Cert.ReferenceIdeal.Read.val_main_v74_eq, a0, a1, a2, a3, a4, a5]
  funext y
  rw [eq_ix2 y]
  exact (Ref.result_apply _ _ _ _ _ _ _ _).trans (array m c (finite_of_pre m hpre c) _ _).symm

end Cert.GateUp
-- ==== Proof.SecondTiles.lean ====
/-
  The second layer's call stores the same tiles as the first layer's.
-/
module

public import proofs.«01_k».proof.Proof.Gen.SecondIdeal.Frame
public import proofs.«01_k».proof.Proof.Pieces

@[expose] public section

noncomputable section

namespace Cert.GateUp.Second

open Idealize.ShloMosaic
open Cert.SecondIdeal Cert.SecondIdeal.Gen

/-- In the second layer's call too, the chunks whose scales are spread before their bytes are read are the same halves. -/
theorem cut34 (b : Vec Ideal S1x32x256 .i8) (s : Vec Ideal S1x2x256 .bf16) : k0_pay34 (k0_pay32 s) (k0_pay33 b) = tileLo b s := rfl

theorem cut44 (b : Vec Ideal S1x32x256 .i8) (s : Vec Ideal S1x2x256 .bf16) : k0_pay44 (k0_pay42 s) (k0_pay43 b) = tileHi b s := rfl

theorem cut120 (b : Vec Ideal S1x32x256 .i8) (s : Vec Ideal S1x2x256 .bf16) : k0_pay120 (k0_pay118 s) (k0_pay119 b) = tileLo b s := rfl

theorem cut130 (b : Vec Ideal S1x32x256 .i8) (s : Vec Ideal S1x2x256 .bf16) : k0_pay130 (k0_pay128 s) (k0_pay129 b) = tileHi b s := rfl

end Cert.GateUp.Second
-- ==== Proof.SecondWeightsA.lean ====
/-
  The second layer's call: its scratch of widened weights read back is the one array `wScratch`, by the lemmas on tiles.
-/
module

public import proofs.«01_k».proof.Proof.Gen.SecondIdeal.Frame
public import proofs.«01_k».proof.Proof.SecondTiles

@[expose] public section

set_option maxRecDepth 16384

noncomputable section

namespace Cert.GateUp.Second

open Idealize.ShloMosaic Idealize.ShloMosaic.Tactic
open Cert.SecondIdeal Cert.SecondIdeal.Gen

set_option maxHeartbeats 2000000 in
/-- Every tile stored at the first point is a block of the array of widened weights. -/
theorem piecesA (c : Dev nD) (a4 : Memref sig .tc .vmem S1x1024x256 .i8) (h4 : a4.IsWhole) (a5 : Memref sig .tc .vmem S1x1024x256 .i8) (h5 : a5.IsWhole)
    (a6 : Memref sig .tc .vmem S1x64x256 .f32) (h6 : a6.IsWhole) (a7 : Memref sig .tc .vmem S1x64x256 .f32) (h7 : a7.IsWhole)
    (a14 a15 : Memref sig .tc .vmem S64x2x256 .bf16)
    (x3 x4 : Vec Ideal S1x1024x256 .i8) (x5 x6 : Vec Ideal S1x64x256 .f32) :
    View.PiecesOf (wScratch x3 x4 x5 x6) (kernelRun0_A.sl.HS1_128 c a4 h4 a5 h5 a6 h6 a7 h7 a14 a15 x3 x4 x5 x6) := by
  have hPg : ∀ (j : Fin 64) (p : Fin 2) (n : Fin 256), k0_pay3 x5 (ix3 j p n) = x5 (ix3 0 j n) * (((1 : ℝ) / 16 : ℝ) : EReal) := packScales_apply x5
  have hPu : ∀ (j : Fin 64) (p : Fin 2) (n : Fin 256), k0_pay145 (k0_pay142 x6) (k0_pay143 x6) (ix3 j p n) = x6 (ix3 0 j n) * (((1 : ℝ) / 16 : ℝ) : EReal) :=
    packScales_apply x6
  sl_unfold_words
  simp (disch := decide) only [View.readCov_fill, View.readAt_eq_ld, h4.read_unread, h5.read_unread, h6.read_unread, h7.read_unread, View.ld_unit_lit,
    cut34, cut44, cut120, cut130]
  iterate 32
    refine ⟨fun y => hi_up hPu (by rfl) (by rfl) (by decide) (by decide) y, ?_⟩
    refine ⟨fun y => lo_up hPu (by rfl) (by decide) (by decide) y, ?_⟩
  iterate 32
    refine ⟨fun y => hi_gate hPg (by rfl) (by rfl) (by decide) (by decide) y, ?_⟩
    refine ⟨fun y => lo_gate hPg (by rfl) (by decide) (by decide) y, ?_⟩
  trivial

/-- What the products read of the scratch at the first point: the widened weights. -/
theorem weightsA (c : Dev nD) (a4 : Memref sig .tc .vmem S1x1024x256 .i8) (h4 : a4.IsWhole) (a5 : Memref sig .tc .vmem S1x1024x256 .i8) (h5 : a5.IsWhole)
    (a6 : Memref sig .tc .vmem S1x64x256 .f32) (h6 : a6.IsWhole) (a7 : Memref sig .tc .vmem S1x64x256 .f32) (h7 : a7.IsWhole)
    (a13 : Memref sig .tc .vmem S2048x512 .bf16) (a14 a15 : Memref sig .tc .vmem S64x2x256 .bf16)
    (x3 x4 : Vec Ideal S1x1024x256 .i8) (x5 x6 : Vec Ideal S1x64x256 .f32) :
    kernelRun0_A.sl.v1880 c a4 h4 a5 h5 a6 h6 a7 h7 a13 a14 a15 x3 x4 x5 x6 = wScratch x3 x4 x5 x6 := by
  unfold kernelRun0_A.sl.v1880
  have hc : ∀ y, ∃ pc ∈ (kernelRun0_A.sl.HS1_128 c a4 h4 a5 h5 a6 h6 a7 h7 a14 a15 x3 x4 x5 x6), y ∈ pc.1.set :=
    View.cover_of_tiledL _ S32x256.size (by sl_kernel_rfl)
  rw [View.readCov_eq_canon_ld _ _ _ hc, View.ld_unit_lit _ _ (by decide)]
  funext y
  exact View.canon_apply_of_pieces _ _ (piecesA c a4 h4 a5 h5 a6 h6 a7 h7 a14 a15 x3 x4 x5 x6).mem y (hc y)

end Cert.GateUp.Second
-- ==== Proof.SecondCodes.lean ====
/-
  The codes that the second layer's call keeps in scratch: its loop, too, leaves every code as a number.
-/
module

public import proofs.«01_k».proof.Proof.Gen.SecondIdeal.Frame
public import proofs.«01_k».proof.Proof.Codes
public import Idealize.ShloMosaic.Lib.Pipeline.ReadBack

@[expose] public section

noncomputable section

namespace Cert.GateUp.Second

open Idealize.ShloMosaic Idealize.ShloMosaic.Tactic
open Cert.SecondIdeal Cert.SecondIdeal.Gen

/-- What one trip of the loop stores: its 128 rows of the codes, converted. -/
theorem trip_pieces (𝒱 : Variants) (c : Dev nD) (bd : Option 𝒱.V) (i : grid0.Coords) (arg1 : Memref sig .tc .vmem S2688x2048 .i8) (harg1 : arg1.IsWhole) (arg2 : Memref sig .tc .vmem S2688x128 .f32) (harg2 : arg2.IsWhole) (arg3 : Memref sig .tc .vmem S2688x128 .f32) (harg3 : arg3.IsWhole) (arg4 : Memref sig .tc .vmem S1x1024x256 .i8) (harg4 : arg4.IsWhole) (arg5 : Memref sig .tc .vmem S1x1024x256 .i8) (harg5 : arg5.IsWhole) (arg6 : Memref sig .tc .vmem S1x64x256 .f32) (harg6 : arg6.IsWhole) (arg7 : Memref sig .tc .vmem S1x64x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S768x256 .bf16) (harg10 : arg10.IsWhole) (arg11 : Memref sig .tc .vmem S2688x256 .f32) (harg11 : arg11.IsWhole) (arg12 : Memref sig .tc .vmem S2688x2048 .bf16) (harg12 : arg12.IsWhole) (arg13 : Memref sig .tc .vmem S2048x512 .bf16) (harg13 : arg13.IsWhole) (arg14 : Memref sig .tc .vmem S64x2x256 .bf16) (harg14 : arg14.IsWhole) (arg15 : Memref sig .tc .vmem S64x2x256 .bf16) (harg15 : arg15.IsWhole) (h1 : k0_cond1 i = 1#1)
    (X : BufTy.Contents (Elt Ideal) arg1.view.ty) (k : Fin k0_t1_loop.trips) :
    tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h1 X k
      = [⟨Rect.unit (s := S2688x2048) (k0_off1 k) S128x2048.size (k0_off1_inb i k h1),
          k0_pay2 (View.readAt (Elt Ideal) arg1.view (Rect.unit (s := S2688x2048) (k0_off1 k) S128x2048.size (k0_off1_inb i k h1)).toLoadRect X)⟩] := by
  unfold tripL_k0_t1 trip_k0_t1
  rfl

/-- Every piece the trips store is a block of the codes as numbers. -/
theorem codes_pieces (𝒱 : Variants) (c : Dev nD) (bd : Option 𝒱.V) (i : grid0.Coords) (arg1 : Memref sig .tc .vmem S2688x2048 .i8) (harg1 : arg1.IsWhole) (arg2 : Memref sig .tc .vmem S2688x128 .f32) (harg2 : arg2.IsWhole) (arg3 : Memref sig .tc .vmem S2688x128 .f32) (harg3 : arg3.IsWhole) (arg4 : Memref sig .tc .vmem S1x1024x256 .i8) (harg4 : arg4.IsWhole) (arg5 : Memref sig .tc .vmem S1x1024x256 .i8) (harg5 : arg5.IsWhole) (arg6 : Memref sig .tc .vmem S1x64x256 .f32) (harg6 : arg6.IsWhole) (arg7 : Memref sig .tc .vmem S1x64x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S768x256 .bf16) (harg10 : arg10.IsWhole) (arg11 : Memref sig .tc .vmem S2688x256 .f32) (harg11 : arg11.IsWhole) (arg12 : Memref sig .tc .vmem S2688x2048 .bf16) (harg12 : arg12.IsWhole) (arg13 : Memref sig .tc .vmem S2048x512 .bf16) (harg13 : arg13.IsWhole) (arg14 : Memref sig .tc .vmem S64x2x256 .bf16) (harg14 : arg14.IsWhole) (arg15 : Memref sig .tc .vmem S64x2x256 .bf16) (harg15 : arg15.IsWhole) (h1 : k0_cond1 i = 1#1)
    (x0 : Vec Ideal S2688x2048 .i8) (k : ℕ) (hk : k ≤ k0_t1_loop.trips) :
    View.PiecesOf (codesF x0) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h1 (harg1.unread x0) k) := by
  induction k with
  | zero => exact trivial
  | succ k ih =>
    rw [pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 h1 (harg1.unread x0) ⟨k, hk⟩, trip_pieces]
    refine ⟨fun y => ?_, ih (Nat.le_of_succ_le hk)⟩
    dsimp only
    rw [View.readAt_eq_ld, harg1.read_unread]
    unfold k0_pay2
    rw [shapeCast_self]
    rfl

end Cert.GateUp.Second
-- ==== Proof.SecondPointA.lean ====
/-
  The second layer's call: what one grid point leaves in the result is its block, over the arrays the point reads.
-/
module

public import proofs.«01_k».proof.Proof.SecondWeightsA
public import proofs.«01_k».proof.Proof.SecondCodes
public import proofs.«01_k».proof.Proof.Block

@[expose] public section

set_option maxRecDepth 16384

noncomputable section

namespace Cert.GateUp.Second

open Idealize.ShloMosaic Idealize.ShloMosaic.Tactic
open Cert.SecondIdeal Cert.SecondIdeal.Gen

set_option maxHeartbeats 1000000 in
/-- At the first point, which converts the codes itself. -/
theorem pointA (c : Dev nD) (i : grid0.Coords) (arg1 : Memref sig .tc .vmem S2688x2048 .i8) (harg1 : arg1.IsWhole) (arg2 : Memref sig .tc .vmem S2688x128 .f32) (harg2 : arg2.IsWhole) (arg3 : Memref sig .tc .vmem S2688x128 .f32) (harg3 : arg3.IsWhole) (arg4 : Memref sig .tc .vmem S1x1024x256 .i8) (harg4 : arg4.IsWhole) (arg5 : Memref sig .tc .vmem S1x1024x256 .i8) (harg5 : arg5.IsWhole) (arg6 : Memref sig .tc .vmem S1x64x256 .f32) (harg6 : arg6.IsWhole) (arg7 : Memref sig .tc .vmem S1x64x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S768x256 .bf16) (harg10 : arg10.IsWhole) (arg11 : Memref sig .tc .vmem S2688x256 .f32) (harg11 : arg11.IsWhole) (arg12 : Memref sig .tc .vmem S2688x2048 .bf16) (harg12 : arg12.IsWhole) (arg13 : Memref sig .tc .vmem S2048x512 .bf16) (harg13 : arg13.IsWhole) (arg14 : Memref sig .tc .vmem S64x2x256 .bf16) (harg14 : arg14.IsWhole) (arg15 : Memref sig .tc .vmem S64x2x256 .bf16) (harg15 : arg15.IsWhole) (hc0 : cond0_0 i)
    (x0 : Vec Ideal S2688x2048 .i8) (x1 : Vec Ideal S2688x128 .f32) (x2 : Vec Ideal S2688x128 .f32) (x3 : Vec Ideal S1x1024x256 .i8) (x4 : Vec Ideal S1x1024x256 .i8) (x5 : Vec Ideal S1x64x256 .f32) (x6 : Vec Ideal S1x64x256 .f32) (x7 : Vec Ideal S1x1x256 .f32) (x8 : Vec Ideal S1x1x256 .f32) (x9 : Vec Ideal S768x256 .bf16)
    (a z : Fin 2688 → EReal) (ha : ∀ r l, x1 (ix2 r l) = a r) (hz : ∀ r l, x2 (ix2 r l) = z r)
    (hf : ∀ r j, blkHidden (codesF x0) (wScratch x3 x4 x5 x6) a z x7 x8 r j - blkHidden (codesF x0) (wScratch x3 x4 x5 x6) a z x7 x8 r j = 0) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = blkOut (codesF x0) (wScratch x3 x4 x5 x6) a z x7 x8 x9 := by
  have hcov : ∀ y, ∃ p ∈ pb_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 (harg1.unread x0) (Scf.trips k0_t1_loop.lb k0_t1_loop.ub k0_t1_loop.st), y ∈ p.1.set :=
    scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9
  have hcan : View.canon (pb_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 (harg1.unread x0) (Scf.trips k0_t1_loop.lb k0_t1_loop.ub k0_t1_loop.st)) = codesF x0 := by
    funext y
    exact View.canon_apply_of_pieces _ _ (codes_pieces Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 _ le_rfl).mem y (hcov y)
  have hcb : ∀ r : Rect S2688x2048, arg12.view.readCov (pb_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 (harg1.unread x0) (Scf.trips k0_t1_loop.lb k0_t1_loop.ub k0_t1_loop.st)) r.toLoadRect = View.ld (codesF x0) r := by
    intro r
    rw [View.readCov_eq_canon_ld _ _ _ hcov, hcan]
  have hc := cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9
  unfold out0_A_10
  rw [View.read_writes_eq_canon _ _ _ hc]
  revert hc
  unfold kernelRun0_A
  dsimp only
  simp only [kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_110, kernelRun0_A.sl.r_111, kernelRun0_A.sl.r_112, kernelRun0_A.sl.r_113, weightsA, hcb]
  simp (disch := decide) only [View.readAt_eq_ld, harg1.read_unread, harg2.read_unread, harg3.read_unread, harg8.read_unread, harg9.read_unread, harg10.read_unread, View.ld_unit_lit]
  intro hc
  funext y
  refine View.canon_apply_of_pieces _ _ (View.PiecesOf.mem ?_) y (hc y)
  clear hc
  unfold kernelRun0_A.sl.cst_898
  refine ⟨fun y => tile_block (codesF x0) (wScratch x3 x4 x5 x6) x1 x2 a z ha hz x7 x8 x9 hf 2304 (by decide) (by decide) y,
    fun y => tile_block (codesF x0) (wScratch x3 x4 x5 x6) x1 x2 a z ha hz x7 x8 x9 hf 1920 (by decide) (by decide) y,
    fun y => tile_block (codesF x0) (wScratch x3 x4 x5 x6) x1 x2 a z ha hz x7 x8 x9 hf 1536 (by decide) (by decide) y,
    fun y => tile_block (codesF x0) (wScratch x3 x4 x5 x6) x1 x2 a z ha hz x7 x8 x9 hf 1152 (by decide) (by decide) y,
    fun y => tile_block (codesF x0) (wScratch x3 x4 x5 x6) x1 x2 a z ha hz x7 x8 x9 hf 768 (by decide) (by decide) y,
    fun y => tile_block (codesF x0) (wScratch x3 x4 x5 x6) x1 x2 a z ha hz x7 x8 x9 hf 384 (by decide) (by decide) y,
    fun y => tile_block (codesF x0) (wScratch x3 x4 x5 x6) x1 x2 a z ha hz x7 x8 x9 hf 0 (by decide) (by decide) y, trivial⟩

/-- The first point leaves the codes, as numbers, in scratch. -/
theorem soutA (c : Dev nD) (i : grid0.Coords) (arg1 : Memref sig .tc .vmem S2688x2048 .i8) (harg1 : arg1.IsWhole) (arg2 : Memref sig .tc .vmem S2688x128 .f32) (harg2 : arg2.IsWhole) (arg3 : Memref sig .tc .vmem S2688x128 .f32) (harg3 : arg3.IsWhole) (arg4 : Memref sig .tc .vmem S1x1024x256 .i8) (harg4 : arg4.IsWhole) (arg5 : Memref sig .tc .vmem S1x1024x256 .i8) (harg5 : arg5.IsWhole) (arg6 : Memref sig .tc .vmem S1x64x256 .f32) (harg6 : arg6.IsWhole) (arg7 : Memref sig .tc .vmem S1x64x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S768x256 .bf16) (harg10 : arg10.IsWhole) (arg11 : Memref sig .tc .vmem S2688x256 .f32) (harg11 : arg11.IsWhole) (arg12 : Memref sig .tc .vmem S2688x2048 .bf16) (harg12 : arg12.IsWhole) (arg13 : Memref sig .tc .vmem S2048x512 .bf16) (harg13 : arg13.IsWhole) (arg14 : Memref sig .tc .vmem S64x2x256 .bf16) (harg14 : arg14.IsWhole) (arg15 : Memref sig .tc .vmem S64x2x256 .bf16) (harg15 : arg15.IsWhole) (hc0 : cond0_0 i)
    (x0 : Vec Ideal S2688x2048 .i8) (x1 : Vec Ideal S2688x128 .f32) (x2 : Vec Ideal S2688x128 .f32) (x3 : Vec Ideal S1x1024x256 .i8) (x4 : Vec Ideal S1x1024x256 .i8) (x5 : Vec Ideal S1x64x256 .f32) (x6 : Vec Ideal S1x64x256 .f32) (x7 : Vec Ideal S1x1x256 .f32) (x8 : Vec Ideal S1x1x256 .f32) (x9 : Vec Ideal S768x256 .bf16) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = codesF x0 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  funext y
  exact View.canon_apply_of_pieces _ _ (codes_pieces Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 _ le_rfl).mem y
    (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 y)

end Cert.GateUp.Second
-- ==== Proof.SecondWeightsB.lean ====
/-
  The second layer's call: its scratch of widened weights read back is the one array `wScratch`, by the lemmas on tiles.
-/
module

public import proofs.«01_k».proof.Proof.Gen.SecondIdeal.Frame
public import proofs.«01_k».proof.Proof.SecondTiles

@[expose] public section

set_option maxRecDepth 16384

noncomputable section

namespace Cert.GateUp.Second

open Idealize.ShloMosaic Idealize.ShloMosaic.Tactic
open Cert.SecondIdeal Cert.SecondIdeal.Gen

set_option maxHeartbeats 2000000 in
/-- Every tile stored at a later point is a block of the array of widened weights. -/
theorem piecesB (c : Dev nD) (a4 : Memref sig .tc .vmem S1x1024x256 .i8) (h4 : a4.IsWhole) (a5 : Memref sig .tc .vmem S1x1024x256 .i8) (h5 : a5.IsWhole)
    (a6 : Memref sig .tc .vmem S1x64x256 .f32) (h6 : a6.IsWhole) (a7 : Memref sig .tc .vmem S1x64x256 .f32) (h7 : a7.IsWhole)
    (a14 a15 : Memref sig .tc .vmem S64x2x256 .bf16)
    (x3 x4 : Vec Ideal S1x1024x256 .i8) (x5 x6 : Vec Ideal S1x64x256 .f32) :
    View.PiecesOf (wScratch x3 x4 x5 x6) (kernelRun0_B.sl.HS1_128 c a4 h4 a5 h5 a6 h6 a7 h7 a14 a15 x3 x4 x5 x6) := by
  have hPg : ∀ (j : Fin 64) (p : Fin 2) (n : Fin 256), k0_pay3 x5 (ix3 j p n) = x5 (ix3 0 j n) * (((1 : ℝ) / 16 : ℝ) : EReal) := packScales_apply x5
  have hPu : ∀ (j : Fin 64) (p : Fin 2) (n : Fin 256), k0_pay145 (k0_pay142 x6) (k0_pay143 x6) (ix3 j p n) = x6 (ix3 0 j n) * (((1 : ℝ) / 16 : ℝ) : EReal) :=
    packScales_apply x6
  sl_unfold_words
  simp (disch := decide) only [View.readCov_fill, View.readAt_eq_ld, h4.read_unread, h5.read_unread, h6.read_unread, h7.read_unread, View.ld_unit_lit,
    cut34, cut44, cut120, cut130]
  iterate 32
    refine ⟨fun y => hi_up hPu (by rfl) (by rfl) (by decide) (by decide) y, ?_⟩
    refine ⟨fun y => lo_up hPu (by rfl) (by decide) (by decide) y, ?_⟩
  iterate 32
    refine ⟨fun y => hi_gate hPg (by rfl) (by rfl) (by decide) (by decide) y, ?_⟩
    refine ⟨fun y => lo_gate hPg (by rfl) (by decide) (by decide) y, ?_⟩
  trivial

/-- What the products read of the scratch at a later point: the widened weights. -/
theorem weightsB (c : Dev nD) (a4 : Memref sig .tc .vmem S1x1024x256 .i8) (h4 : a4.IsWhole) (a5 : Memref sig .tc .vmem S1x1024x256 .i8) (h5 : a5.IsWhole)
    (a6 : Memref sig .tc .vmem S1x64x256 .f32) (h6 : a6.IsWhole) (a7 : Memref sig .tc .vmem S1x64x256 .f32) (h7 : a7.IsWhole)
    (a13 : Memref sig .tc .vmem S2048x512 .bf16) (a14 a15 : Memref sig .tc .vmem S64x2x256 .bf16)
    (x3 x4 : Vec Ideal S1x1024x256 .i8) (x5 x6 : Vec Ideal S1x64x256 .f32) :
    kernelRun0_B.sl.v1880 c a4 h4 a5 h5 a6 h6 a7 h7 a13 a14 a15 x3 x4 x5 x6 = wScratch x3 x4 x5 x6 := by
  unfold kernelRun0_B.sl.v1880
  have hc : ∀ y, ∃ pc ∈ (kernelRun0_B.sl.HS1_128 c a4 h4 a5 h5 a6 h6 a7 h7 a14 a15 x3 x4 x5 x6), y ∈ pc.1.set :=
    View.cover_of_tiledL _ S32x256.size (by sl_kernel_rfl)
  rw [View.readCov_eq_canon_ld _ _ _ hc, View.ld_unit_lit _ _ (by decide)]
  funext y
  exact View.canon_apply_of_pieces _ _ (piecesB c a4 h4 a5 h5 a6 h6 a7 h7 a14 a15 x3 x4 x5 x6).mem y (hc y)

end Cert.GateUp.Second
-- ==== Proof.SecondPointB.lean ====
/-
  The second layer's call: what one grid point leaves in the result is its block, over the arrays the point reads.
-/
module

public import proofs.«01_k».proof.Proof.SecondWeightsB
public import proofs.«01_k».proof.Proof.SecondCodes
public import proofs.«01_k».proof.Proof.Block

@[expose] public section

set_option maxRecDepth 16384

noncomputable section

namespace Cert.GateUp.Second

open Idealize.ShloMosaic Idealize.ShloMosaic.Tactic
open Cert.SecondIdeal Cert.SecondIdeal.Gen

set_option maxHeartbeats 1000000 in
/-- At a later point, the codes being what the point before left in scratch. -/
theorem pointB (c : Dev nD) (i : grid0.Coords) (arg1 : Memref sig .tc .vmem S2688x2048 .i8) (harg1 : arg1.IsWhole) (arg2 : Memref sig .tc .vmem S2688x128 .f32) (harg2 : arg2.IsWhole) (arg3 : Memref sig .tc .vmem S2688x128 .f32) (harg3 : arg3.IsWhole) (arg4 : Memref sig .tc .vmem S1x1024x256 .i8) (harg4 : arg4.IsWhole) (arg5 : Memref sig .tc .vmem S1x1024x256 .i8) (harg5 : arg5.IsWhole) (arg6 : Memref sig .tc .vmem S1x64x256 .f32) (harg6 : arg6.IsWhole) (arg7 : Memref sig .tc .vmem S1x64x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S768x256 .bf16) (harg10 : arg10.IsWhole) (arg11 : Memref sig .tc .vmem S2688x256 .f32) (harg11 : arg11.IsWhole) (arg12 : Memref sig .tc .vmem S2688x2048 .bf16) (harg12 : arg12.IsWhole) (arg13 : Memref sig .tc .vmem S2048x512 .bf16) (harg13 : arg13.IsWhole) (arg14 : Memref sig .tc .vmem S64x2x256 .bf16) (harg14 : arg14.IsWhole) (arg15 : Memref sig .tc .vmem S64x2x256 .bf16) (harg15 : arg15.IsWhole) (hc0 : ¬cond0_0 i)
    (x0 : Vec Ideal S2688x2048 .i8) (x1 : Vec Ideal S2688x128 .f32) (x2 : Vec Ideal S2688x128 .f32) (x3 : Vec Ideal S1x1024x256 .i8) (x4 : Vec Ideal S1x1024x256 .i8) (x5 : Vec Ideal S1x64x256 .f32) (x6 : Vec Ideal S1x64x256 .f32) (x7 : Vec Ideal S1x1x256 .f32) (x8 : Vec Ideal S1x1x256 .f32) (x9 : Vec Ideal S768x256 .bf16) (xs0 : Vec Ideal S2688x2048 .bf16)
    (a z : Fin 2688 → EReal) (ha : ∀ r l, x1 (ix2 r l) = a r) (hz : ∀ r l, x2 (ix2 r l) = z r)
    (hf : ∀ r j, blkHidden (xs0) (wScratch x3 x4 x5 x6) a z x7 x8 r j - blkHidden (xs0) (wScratch x3 x4 x5 x6) a z x7 x8 r j = 0) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 = blkOut (xs0) (wScratch x3 x4 x5 x6) a z x7 x8 x9 := by
  have hc := cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0
  unfold out0_B_10
  rw [View.read_writes_eq_canon _ _ _ hc]
  revert hc
  unfold kernelRun0_B
  dsimp only
  simp only [kernelRun0_B.sl.r_102, kernelRun0_B.sl.r_103, kernelRun0_B.sl.r_104, kernelRun0_B.sl.r_105, kernelRun0_B.sl.r_106, kernelRun0_B.sl.r_107, kernelRun0_B.sl.r_108, kernelRun0_B.sl.r_109, kernelRun0_B.sl.r_110, kernelRun0_B.sl.r_111, kernelRun0_B.sl.r_112, kernelRun0_B.sl.r_113, weightsB]
  simp (disch := decide) only [View.readAt_eq_ld, harg1.read_unread, harg2.read_unread, harg3.read_unread, harg8.read_unread, harg9.read_unread, harg10.read_unread, harg12.read_unread, View.ld_unit_lit]
  intro hc
  funext y
  refine View.canon_apply_of_pieces _ _ (View.PiecesOf.mem ?_) y (hc y)
  clear hc
  unfold kernelRun0_B.sl.cst_898
  refine ⟨fun y => tile_block xs0 (wScratch x3 x4 x5 x6) x1 x2 a z ha hz x7 x8 x9 hf 2304 (by decide) (by decide) y,
    fun y => tile_block xs0 (wScratch x3 x4 x5 x6) x1 x2 a z ha hz x7 x8 x9 hf 1920 (by decide) (by decide) y,
    fun y => tile_block xs0 (wScratch x3 x4 x5 x6) x1 x2 a z ha hz x7 x8 x9 hf 1536 (by decide) (by decide) y,
    fun y => tile_block xs0 (wScratch x3 x4 x5 x6) x1 x2 a z ha hz x7 x8 x9 hf 1152 (by decide) (by decide) y,
    fun y => tile_block xs0 (wScratch x3 x4 x5 x6) x1 x2 a z ha hz x7 x8 x9 hf 768 (by decide) (by decide) y,
    fun y => tile_block xs0 (wScratch x3 x4 x5 x6) x1 x2 a z ha hz x7 x8 x9 hf 384 (by decide) (by decide) y,
    fun y => tile_block xs0 (wScratch x3 x4 x5 x6) x1 x2 a z ha hz x7 x8 x9 hf 0 (by decide) (by decide) y, trivial⟩

end Cert.GateUp.Second
-- ==== Proof.SecondBlocks.lean ====
/-
  The blocks a grid point of the second layer's call reads, entry by entry, over the call's arguments.
-/
module

public import proofs.«01_k».proof.Proof.Gen.SecondIdeal.Value
public import proofs.«01_k».proof.Proof.Spec
public import Idealize.ShloMosaic.Lib.Pipeline.ValueKit.Point

@[expose] public section

set_option maxRecDepth 16384

noncomputable section

namespace Cert.GateUp.Second

open Idealize.ShloMosaic Idealize.ShloMosaic.TcCoe Idealize.ShloMosaic.Tactic
open Cert.SecondIdeal Cert.SecondIdeal.Gen

variable (m : (ℓ : Loc nD τ sig) → Buf (Elt Ideal) ℓ)

/-- Where each window's block lies at a point: whole arrays, or the point's block of columns of the gate or of the up matrix. -/
theorem idx : ∀ t : Fin cfg0.N, (win0_0.index t 0 = 0 ∧ win0_0.index t 1 = 0 ∧ win0_1.index t 0 = 0 ∧ win0_1.index t 1 = 0
    ∧ win0_2.index t 0 = 0 ∧ win0_2.index t 1 = 0) ∧ (win0_9.index t 0 = 0 ∧ win0_9.index t 1 = 0)
    ∧ (win0_3.index t 0 = 1 ∧ win0_3.index t 1 = 0 ∧ win0_3.index t 2 = t.val)
    ∧ (win0_4.index t 0 = 1 ∧ win0_4.index t 1 = 0 ∧ win0_4.index t 2 = 32 + t.val)
    ∧ (win0_5.index t 0 = 1 ∧ win0_5.index t 1 = 0 ∧ win0_5.index t 2 = t.val)
    ∧ (win0_6.index t 0 = 1 ∧ win0_6.index t 1 = 0 ∧ win0_6.index t 2 = 32 + t.val)
    ∧ (win0_7.index t 0 = 1 ∧ win0_7.index t 1 = 0 ∧ win0_7.index t 2 = t.val)
    ∧ (win0_8.index t 0 = 1 ∧ win0_8.index t 1 = 0 ∧ win0_8.index t 2 = 32 + t.val) :=
  (by decide +kernel : ∀ t : Fin grid0.N, _)

/-- The codes, whole. -/
theorem blk0 (c : Dev nD) (t : Fin cfg0.N) (r : Fin 2688) (k : Fin 2048) :
    (iblk m c 0 t : Vec Ideal S2688x2048 .i8) (ix2 r k) = m ((c : Thread nD τ).loc main_arg0) (ix2 r k) := by
  blk_ext! [iblk, V, idx t]

/-- The row scales, repeated along the lanes. -/
theorem blk1 (c : Dev nD) (t : Fin cfg0.N) (r : Fin 2688) (l : Fin 128) :
    (iblk m c 1 t : Vec Ideal S2688x128 .f32) (ix2 r l) = m ((c : Thread nD τ).loc main_arg1) (ix1 r) := by
  blk_ext! [iblk, V, idx t]

/-- The row zero points as numbers, repeated along the lanes. -/
theorem blk2 (c : Dev nD) (t : Fin cfg0.N) (r : Fin 2688) (l : Fin 128) :
    (iblk m c 2 t : Vec Ideal S2688x128 .f32) (ix2 r l) = (((m ((c : Thread nD τ).loc main_arg2) (ix1 r) : BitVec 32).toInt : ℝ) : EReal) := by
  blk_simp [iblk, idx t]
  entry_read
  pointwise
  have h0 : (((View.whole main_v21).slice (win0_2.rect t)).emb (ix2 r l) 0).val = win0_2.index t 0 * 2688 + 1 * r.val := rfl
  have h1 : ((View.whole main_v21).slice (win0_2.rect t)).emb (ix2 r l) 0 = r := Fin.ext (by rw [h0, (idx t).1.2.2.2.2.1]; omega)
  rw [h1]
  rfl

/-- The gate's bytes: the point's 256 columns. -/
theorem blk3 (c : Dev nD) (t : Fin cfg0.N) (k : Fin 1024) (n : Fin 256) (j : Fin 16384) (hj : j.val = 256 * t.val + n.val) :
    (iblk m c 3 t : Vec Ideal S1x1024x256 .i8) (ix3 0 k n) = m ((c : Thread nD τ).loc main_arg3) (ix3 1 k j) := by
  blk_ext! [iblk, V, idx t]

/-- The up matrix's bytes: the point's 256 columns. -/
theorem blk4 (c : Dev nD) (t : Fin cfg0.N) (k : Fin 1024) (n : Fin 256) (j : Fin 16384) (hj : j.val = 8192 + 256 * t.val + n.val) :
    (iblk m c 4 t : Vec Ideal S1x1024x256 .i8) (ix3 0 k n) = m ((c : Thread nD τ).loc main_arg3) (ix3 1 k j) := by
  blk_ext! [iblk, V, idx t]

/-- The gate's group scales: the point's 256 columns. -/
theorem blk5 (c : Dev nD) (t : Fin cfg0.N) (k : Fin 64) (n : Fin 256) (j : Fin 16384) (hj : j.val = 256 * t.val + n.val) :
    (iblk m c 5 t : Vec Ideal S1x64x256 .f32) (ix3 0 k n) = m ((c : Thread nD τ).loc main_arg4) (ix3 1 k j) := by
  blk_ext! [iblk, V, idx t]

/-- The up matrix's group scales: the point's 256 columns. -/
theorem blk6 (c : Dev nD) (t : Fin cfg0.N) (k : Fin 64) (n : Fin 256) (j : Fin 16384) (hj : j.val = 8192 + 256 * t.val + n.val) :
    (iblk m c 6 t : Vec Ideal S1x64x256 .f32) (ix3 0 k n) = m ((c : Thread nD τ).loc main_arg4) (ix3 1 k j) := by
  blk_ext! [iblk, V, idx t]

/-- The gate's column sums: the point's 256 columns. -/
theorem blk7 (c : Dev nD) (t : Fin cfg0.N) (n : Fin 256) (j : Fin 16384) (hj : j.val = 256 * t.val + n.val) :
    (iblk m c 7 t : Vec Ideal S1x1x256 .f32) (ix3 0 0 n) = m ((c : Thread nD τ).loc main_arg5) (ix2 1 j) := by
  blk_ext! [iblk, V, idx t]

/-- The up matrix's column sums: the point's 256 columns. -/
theorem blk8 (c : Dev nD) (t : Fin cfg0.N) (n : Fin 256) (j : Fin 16384) (hj : j.val = 8192 + 256 * t.val + n.val) :
    (iblk m c 8 t : Vec Ideal S1x1x256 .f32) (ix3 0 0 n) = m ((c : Thread nD τ).loc main_arg5) (ix2 1 j) := by
  blk_ext! [iblk, V, idx t]

/-- The Hadamard matrix: the first of the three copies. -/
theorem blk9 (c : Dev nD) (t : Fin cfg0.N) (j : Fin 768) (n : Fin 256) (q : Fin 256) (hq : j.val = q.val) :
    (iblk m c 9 t : Vec Ideal S768x256 .bf16) (ix2 j n) = hadEntry q n := by
  blk_simp [iblk, idx t]
  entry_read
  pointwise
  have h0 : (((View.whole main_v16).slice (win0_9.rect t)).emb (ix2 j n) 0).val = win0_9.index t 0 * 768 + 1 * j.val := rfl
  have h1 : (((View.whole main_v16).slice (win0_9.rect t)).emb (ix2 j n) 1).val = win0_9.index t 1 * 256 + 1 * n.val := rfl
  have hq' := q.isLt
  rw [h0, h1, (idx t).2.1.1, (idx t).2.1.2, show (0 * 768 + 1 * j.val) % 256 = q.val by omega, show 0 * 256 + 1 * n.val = n.val by omega]
  rfl

end Cert.GateUp.Second
-- ==== Proof.SecondArray.lean ====
/-
  The second layer's call: every entry of the result array after the run is `gateUp` of the second layer's arguments.
-/
module

public import proofs.«01_k».proof.Proof.SecondPointA
public import proofs.«01_k».proof.Proof.SecondPointB
public import proofs.«01_k».proof.Proof.SecondBlocks
public import proofs.«01_k».proof.Proof.Layer

@[expose] public section

set_option maxRecDepth 16384

noncomputable section

namespace Cert.GateUp.Second

open Idealize.ShloMosaic Idealize.ShloMosaic.TcCoe Idealize.ShloMosaic.Tactic
open Cert.SecondIdeal Cert.SecondIdeal.Gen Cert.SecondIdeal.Value

variable (m : (ℓ : Loc nD τ sig) → Buf (Elt Ideal) ℓ)

/-- The codes. -/
abbrev cdOf (c : Dev nD) : Vec Ideal S2688x2048 .i8 := m ((c : Thread nD τ).loc main_arg0)
/-- The row scales. -/
abbrev scOf (c : Dev nD) : Vec Ideal S2688 .f32 := m ((c : Thread nD τ).loc main_arg1)
/-- The row zero points. -/
abbrev zpOf (c : Dev nD) : Vec Ideal S2688 .i32 := m ((c : Thread nD τ).loc main_arg2)
/-- The packed weights of both layers. -/
abbrev wOf (c : Dev nD) : Vec Ideal S2x1024x16384 .i8 := m ((c : Thread nD τ).loc main_arg3)
/-- The group scales of both layers. -/
abbrev wsOf (c : Dev nD) : Vec Ideal S2x64x16384 .f32 := m ((c : Thread nD τ).loc main_arg4)
/-- The column sums of both layers. -/
abbrev wmOf (c : Dev nD) : Vec Ideal S2x16384 .f32 := m ((c : Thread nD τ).loc main_arg5)

/-- The block of codes is the array of codes. -/
theorem codes_blk (c : Dev nD) (t : Fin cfg0.N) : (iblk m c 0 t : Vec Ideal S2688x2048 .i8) = cdOf m c :=
  funext fun y => by rw [eq_ix2 y]; exact blk0 m c t _ _

/-- After every point the scratch holds the codes as numbers. -/
theorem carried (c : Dev nD) : ∀ (n : ℕ) (hn : n < cfg0.N), (outsAt0 m c n hn).2 = codesF (cdOf m c)
  | 0, hn => by
    rw [outsAt0_A m c ⟨0, hn⟩ rfl]
    dsimp only
    rw [soutA, codes_blk]
  | n + 1, hn => by
    have h32 : n + 1 < 32 := lt_of_lt_of_eq hn (show cfg0.N = 32 from N_0)
    rw [outsAt0_B m c ⟨n + 1, hn⟩ (by dsimp only; omega)]
    dsimp only
    exact carried c n _

/-- The blocks that a point reads. -/
theorem reads (c : Dev nD) (t : Fin cfg0.N) : Reads 1 t.val (wOf m c) (wsOf m c) (wmOf m c) (iblk m c 3 t) (iblk m c 4 t) (iblk m c 5 t)
    (iblk m c 6 t) (iblk m c 7 t) (iblk m c 8 t) (iblk m c 9 t) :=
  ⟨blk3 m c t, blk4 m c t, blk5 m c t, blk6 m c t, blk7 m c t, blk8 m c t, blk9 m c t⟩

/-- What every point leaves in its block of the result. -/
theorem point (c : Dev nD) (h : Finite 1 (scOf m c) (wsOf m c) (wmOf m c)) (t : Fin cfg0.N) : (outsAt0 m c t.val t.isLt).1
    = blkOut (codesF (cdOf m c)) (wScratch (iblk m c 3 t) (iblk m c 4 t) (iblk m c 5 t) (iblk m c 6 t))
      (fun r => scOf m c (ix1 r)) (fun r => (((zpOf m c (ix1 r)).toInt : ℝ) : EReal)) (iblk m c 7 t) (iblk m c 8 t) (iblk m c 9 t) := by
  have h32 : t.val < 32 := lt_of_lt_of_eq t.isLt (show cfg0.N = 32 from N_0)
  have hf := (reads m c t).sub_self (cdOf m c) (scOf m c) (zpOf m c) h32 h
  by_cases h0 : t.val % 32 = 0
  · rw [outsAt0_A m c t h0]
    dsimp only
    have e := codes_blk m c t
    refine (pointA _ _ _ _ _ _ _ _ _ _ _ _ _ _ _ _ _ _ _ _ _ _ _ _ _ _ _ _ _ _ _ _ _ (iblk m c 0 t) (iblk m c 1 t) (iblk m c 2 t)
      (iblk m c 3 t) (iblk m c 4 t) (iblk m c 5 t) (iblk m c 6 t) (iblk m c 7 t) (iblk m c 8 t) (iblk m c 9 t)
      (fun r => scOf m c (ix1 r)) (fun r => (((zpOf m c (ix1 r)).toInt : ℝ) : EReal)) (blk1 m c t) (blk2 m c t) ?_).trans ?_
    · rw [e]; exact hf
    · rw [e]
  · rw [outsAt0_B m c t h0]
    dsimp only
    rw [carried]
    exact pointB _ _ _ _ _ _ _ _ _ _ _ _ _ _ _ _ _ _ _ _ _ _ _ _ _ _ _ _ _ _ _ _ _ (iblk m c 0 t) (iblk m c 1 t) (iblk m c 2 t)
      (iblk m c 3 t) (iblk m c 4 t) (iblk m c 5 t) (iblk m c 6 t) (iblk m c 7 t) (iblk m c 8 t) (iblk m c 9 t) (codesF (cdOf m c))
      (fun r => scOf m c (ix1 r)) (fun r => (((zpOf m c (ix1 r)).toInt : ℝ) : EReal)) (blk1 m c t) (blk2 m c t) hf

/-- The array after the run, entry by entry. -/
theorem array (c : Dev nD) (h : Finite 1 (scOf m c) (wsOf m c) (wmOf m c)) (r : Fin 2688) (n : Fin 8192) :
    G10 m c (ix2 r n) = gateUp 1 (cdOf m c) (scOf m c) (zpOf m c) (wOf m c) (wsOf m c) (wmOf m c) r n := by
  have hr := r.isLt
  have hn := n.isLt
  have hN : cfg0.N = 32 := N_0
  have hp : pt10Of (ix2 r n) = n.val / 256 := by
    show 32 * (r.val / 2688 - 0) + 1 * (n.val / 256 - 0) = n.val / 256
    omega
  unfold G10
  rw [dif_pos (by rw [hp, hN]; omega), fold0_congr m c _ _ (n.val / 256) (by rw [hN]; omega) hp,
    ← outsAt0_sweep m c (n.val / 256) (by rw [hN]; omega), point m c h ⟨n.val / 256, by rw [hN]; omega⟩]
  exact (reads m c ⟨n.val / 256, by rw [hN]; omega⟩).out_eq (cdOf m c) (scOf m c) (zpOf m c) (by dsimp only; omega) _ r n
    (Fin.ext (Nat.mod_eq_of_lt hr)) rfl rfl

end Cert.GateUp.Second
-- ==== Proof.SecondRef.lean ====
/-
  The second layer's reference: it is the first layer's, at the arrays with their two layers swapped.
-/
module

public import proofs.«01_k».proof.Proof.Gen.SecondReferenceIdeal.Read
public import proofs.«01_k».proof.Proof.Ref

@[expose] public section

noncomputable section

namespace Cert.GateUp.Second.Ref

open Idealize.ShloMosaic Idealize.ShloMosaic.StableHlo
open Cert.SecondReferenceIdeal Cert.SecondReferenceIdeal.Gen Cert.SecondReferenceIdeal.Read

variable (x0 : Vec Ideal S2688x2048 .i8) (x1 : Vec Ideal S2688 .f32) (x2 : Vec Ideal S2688 .i32) (x3 : Vec Ideal S2x1024x16384 .i8)
  (x4 : Vec Ideal S2x64x16384 .f32) (x5 : Vec Ideal S2x16384 .f32)

/-- An array of two layers of matrices, with the layers swapped. -/
def swap3 {α : Type} {a b : ℕ} (x : (⟨3, ![2, a, b]⟩ : Shape).Idx → α) : (⟨3, ![2, a, b]⟩ : Shape).Idx → α := fun y =>
  x (ix3 ((![1, 0] : Fin 2 → Fin 2) (y 0)) (y 1 : Fin a) (y 2 : Fin b))

/-- An array of two layers of rows, with the layers swapped. -/
def swap2 {α : Type} {a : ℕ} (x : (⟨2, ![2, a]⟩ : Shape).Idx → α) : (⟨2, ![2, a]⟩ : Shape).Idx → α := fun y =>
  x (ix2 ((![1, 0] : Fin 2 → Fin 2) (y 0)) (y 1 : Fin a))

/-- The second layer's bytes. -/
theorem bytes_eq : val_main_v1 (F := Ideal) x3 = Cert.ReferenceIdeal.Read.val_main_v1 (F := Ideal) (swap3 x3) := by
  funext y
  obtain ⟨k, j, rfl⟩ : ∃ (k : Fin 1024) (j : Fin 16384), y = ix2 k j := ⟨y 0, y 1, eq_ix2 y⟩
  unfold val_main_v1 val_main_v0 Cert.ReferenceIdeal.Read.val_main_v1 Cert.ReferenceIdeal.Read.val_main_v0
  pointwise
  rfl

/-- The second layer's group scales. -/
theorem scales_eq : val_main_v3 (F := Ideal) x4 = Cert.ReferenceIdeal.Read.val_main_v3 (F := Ideal) (swap3 x4) := by
  funext y
  obtain ⟨k, j, rfl⟩ : ∃ (k : Fin 64) (j : Fin 16384), y = ix2 k j := ⟨y 0, y 1, eq_ix2 y⟩
  unfold val_main_v3 val_main_v2 Cert.ReferenceIdeal.Read.val_main_v3 Cert.ReferenceIdeal.Read.val_main_v2
  pointwise
  rfl

/-- The second layer's column sums. -/
theorem sums_eq : val_main_v5 (F := Ideal) x5 = Cert.ReferenceIdeal.Read.val_main_v5 (F := Ideal) (swap2 x5) := by
  funext y
  obtain ⟨j, rfl⟩ : ∃ j : Fin 16384, y = ix1 j := ⟨y 0, eq_ix1 y⟩
  unfold val_main_v5 val_main_v4 Cert.ReferenceIdeal.Read.val_main_v5 Cert.ReferenceIdeal.Read.val_main_v4
  pointwise
  rfl

/-- At the swapped arrays the first layer's weights are the second layer's. -/
theorem weight_swap (k : Fin 2048) (j : Fin 16384) : weight 0 (swap3 x3) (swap3 x4) k j = weight 1 x3 x4 k j := rfl

/-- At the swapped arrays the first layer's column sums are the second layer's. -/
theorem sum_swap (j : Fin 16384) : swap2 x5 (ix2 (0 : Fin 2) j) = x5 (ix2 (1 : Fin 2) j) := rfl

/-- At the swapped arrays the first layer's result is the second layer's. -/
theorem gateUp_swap (r : Fin 2688) (n : Fin 8192) :
    gateUp 0 x0 x1 x2 (swap3 x3) (swap3 x4) (swap2 x5) r n = gateUp 1 x0 x1 x2 x3 x4 x5 r n := by
  unfold gateUp hidden linear accum
  simp only [weight_swap x3 x4, sum_swap x5]

/-- The reference's result. -/
theorem result_apply (r : Fin 2688) (n : Fin 8192) : val_main_v74 (F := Ideal) x0 x1 x2 x3 x4 x5 (ix2 r n) = gateUp 1 x0 x1 x2 x3 x4 x5 r n := by
  rw [← gateUp_swap, ← Cert.GateUp.Ref.result_apply]
  refine congrFun ?_ (ix2 r n)
  have e1 := bytes_eq x3
  have e3 := scales_eq x4
  have e5 := sums_eq x5
  unfold Cert.SecondReferenceIdeal.Read.val_main_v74 Cert.SecondReferenceIdeal.Read.val_main_v73 Cert.SecondReferenceIdeal.Read.val_main_v72 Cert.SecondReferenceIdeal.Read.val_main_v71 Cert.SecondReferenceIdeal.Read.val_main_v70 Cert.SecondReferenceIdeal.Read.val_main_c_6 Cert.SecondReferenceIdeal.Read.val_main_v69 Cert.SecondReferenceIdeal.Read.val_main_v68 Cert.SecondReferenceIdeal.Read.val_main_c_5 Cert.SecondReferenceIdeal.Read.val_main_v67 Cert.SecondReferenceIdeal.Read.val_main_v66 Cert.SecondReferenceIdeal.Read.val_main_c_4 Cert.SecondReferenceIdeal.Read.val_main_v65 Cert.SecondReferenceIdeal.Read.val_main_v64 Cert.SecondReferenceIdeal.Read.val_main_v63 Cert.SecondReferenceIdeal.Read.val_main_v62 Cert.SecondReferenceIdeal.Read.val_main_v61 Cert.SecondReferenceIdeal.Read.val_main_v60 Cert.SecondReferenceIdeal.Read.val_main_v59 Cert.SecondReferenceIdeal.Read.val_main_v58 Cert.SecondReferenceIdeal.Read.val_main_v57 Cert.SecondReferenceIdeal.Read.val_main_v56 Cert.SecondReferenceIdeal.Read.val_main_v55 Cert.SecondReferenceIdeal.Read.val_main_v54 Cert.SecondReferenceIdeal.Read.val_main_cst_3 Cert.SecondReferenceIdeal.Read.val_main_v53 Cert.SecondReferenceIdeal.Read.val_main_v52 Cert.SecondReferenceIdeal.Read.val_main_cst Cert.SecondReferenceIdeal.Read.val_main_v51 Cert.SecondReferenceIdeal.Read.val_main_v50 Cert.SecondReferenceIdeal.Read.val_main_v49 Cert.SecondReferenceIdeal.Read.val_main_v48 Cert.SecondReferenceIdeal.Read.val_main_v47 Cert.SecondReferenceIdeal.Read.val_main_v46 Cert.SecondReferenceIdeal.Read.val_main_v45 Cert.SecondReferenceIdeal.Read.val_main_v44 Cert.SecondReferenceIdeal.Read.val_main_v43 Cert.SecondReferenceIdeal.Read.val_main_v42 Cert.SecondReferenceIdeal.Read.val_main_v41 Cert.SecondReferenceIdeal.Read.val_main_v40 Cert.SecondReferenceIdeal.Read.val_main_v39 Cert.SecondReferenceIdeal.Read.val_main_v38 Cert.SecondReferenceIdeal.Read.val_main_v37 Cert.SecondReferenceIdeal.Read.val_main_v36 Cert.SecondReferenceIdeal.Read.val_main_v35 Cert.SecondReferenceIdeal.Read.val_main_v34 Cert.SecondReferenceIdeal.Read.val_main_v33 Cert.SecondReferenceIdeal.Read.val_main_v32 Cert.SecondReferenceIdeal.Read.val_main_v31 Cert.SecondReferenceIdeal.Read.val_main_v30 Cert.SecondReferenceIdeal.Read.val_main_v29 Cert.SecondReferenceIdeal.Read.val_main_v28 Cert.SecondReferenceIdeal.Read.val_main_v27 Cert.SecondReferenceIdeal.Read.val_main_v26 Cert.SecondReferenceIdeal.Read.val_main_v25 Cert.SecondReferenceIdeal.Read.val_main_v24 Cert.SecondReferenceIdeal.Read.val_main_v23 Cert.SecondReferenceIdeal.Read.val_main_v22 Cert.SecondReferenceIdeal.Read.val_main_v21 Cert.SecondReferenceIdeal.Read.val_main_c_2 Cert.SecondReferenceIdeal.Read.val_main_v20 Cert.SecondReferenceIdeal.Read.val_main_v19 Cert.SecondReferenceIdeal.Read.val_main_c_1 Cert.SecondReferenceIdeal.Read.val_main_v18 Cert.SecondReferenceIdeal.Read.val_main_v17 Cert.SecondReferenceIdeal.Read.val_main_v16 Cert.SecondReferenceIdeal.Read.val_main_v15 Cert.SecondReferenceIdeal.Read.val_main_v14 Cert.SecondReferenceIdeal.Read.val_main_v13 Cert.SecondReferenceIdeal.Read.val_main_v12 Cert.SecondReferenceIdeal.Read.val_main_v11 Cert.SecondReferenceIdeal.Read.val_main_v10 Cert.SecondReferenceIdeal.Read.val_main_v9 Cert.SecondReferenceIdeal.Read.val_main_c_0 Cert.SecondReferenceIdeal.Read.val_main_v8 Cert.SecondReferenceIdeal.Read.val_main_v7 Cert.SecondReferenceIdeal.Read.val_main_c Cert.SecondReferenceIdeal.Read.val_main_v6
  unfold Cert.ReferenceIdeal.Read.val_main_v74 Cert.ReferenceIdeal.Read.val_main_v73 Cert.ReferenceIdeal.Read.val_main_v72 Cert.ReferenceIdeal.Read.val_main_v71 Cert.ReferenceIdeal.Read.val_main_v70 Cert.ReferenceIdeal.Read.val_main_c_6 Cert.ReferenceIdeal.Read.val_main_v69 Cert.ReferenceIdeal.Read.val_main_v68 Cert.ReferenceIdeal.Read.val_main_c_5 Cert.ReferenceIdeal.Read.val_main_v67 Cert.ReferenceIdeal.Read.val_main_v66 Cert.ReferenceIdeal.Read.val_main_c_4 Cert.ReferenceIdeal.Read.val_main_v65 Cert.ReferenceIdeal.Read.val_main_v64 Cert.ReferenceIdeal.Read.val_main_v63 Cert.ReferenceIdeal.Read.val_main_v62 Cert.ReferenceIdeal.Read.val_main_v61 Cert.ReferenceIdeal.Read.val_main_v60 Cert.ReferenceIdeal.Read.val_main_v59 Cert.ReferenceIdeal.Read.val_main_v58 Cert.ReferenceIdeal.Read.val_main_v57 Cert.ReferenceIdeal.Read.val_main_v56 Cert.ReferenceIdeal.Read.val_main_v55 Cert.ReferenceIdeal.Read.val_main_v54 Cert.ReferenceIdeal.Read.val_main_cst_3 Cert.ReferenceIdeal.Read.val_main_v53 Cert.ReferenceIdeal.Read.val_main_v52 Cert.ReferenceIdeal.Read.val_main_cst Cert.ReferenceIdeal.Read.val_main_v51 Cert.ReferenceIdeal.Read.val_main_v50 Cert.ReferenceIdeal.Read.val_main_v49 Cert.ReferenceIdeal.Read.val_main_v48 Cert.ReferenceIdeal.Read.val_main_v47 Cert.ReferenceIdeal.Read.val_main_v46 Cert.ReferenceIdeal.Read.val_main_v45 Cert.ReferenceIdeal.Read.val_main_v44 Cert.ReferenceIdeal.Read.val_main_v43 Cert.ReferenceIdeal.Read.val_main_v42 Cert.ReferenceIdeal.Read.val_main_v41 Cert.ReferenceIdeal.Read.val_main_v40 Cert.ReferenceIdeal.Read.val_main_v39 Cert.ReferenceIdeal.Read.val_main_v38 Cert.ReferenceIdeal.Read.val_main_v37 Cert.ReferenceIdeal.Read.val_main_v36 Cert.ReferenceIdeal.Read.val_main_v35 Cert.ReferenceIdeal.Read.val_main_v34 Cert.ReferenceIdeal.Read.val_main_v33 Cert.ReferenceIdeal.Read.val_main_v32 Cert.ReferenceIdeal.Read.val_main_v31 Cert.ReferenceIdeal.Read.val_main_v30 Cert.ReferenceIdeal.Read.val_main_v29 Cert.ReferenceIdeal.Read.val_main_v28 Cert.ReferenceIdeal.Read.val_main_v27 Cert.ReferenceIdeal.Read.val_main_v26 Cert.ReferenceIdeal.Read.val_main_v25 Cert.ReferenceIdeal.Read.val_main_v24 Cert.ReferenceIdeal.Read.val_main_v23 Cert.ReferenceIdeal.Read.val_main_v22 Cert.ReferenceIdeal.Read.val_main_v21 Cert.ReferenceIdeal.Read.val_main_c_2 Cert.ReferenceIdeal.Read.val_main_v20 Cert.ReferenceIdeal.Read.val_main_v19 Cert.ReferenceIdeal.Read.val_main_c_1 Cert.ReferenceIdeal.Read.val_main_v18 Cert.ReferenceIdeal.Read.val_main_v17 Cert.ReferenceIdeal.Read.val_main_v16 Cert.ReferenceIdeal.Read.val_main_v15 Cert.ReferenceIdeal.Read.val_main_v14 Cert.ReferenceIdeal.Read.val_main_v13 Cert.ReferenceIdeal.Read.val_main_v12 Cert.ReferenceIdeal.Read.val_main_v11 Cert.ReferenceIdeal.Read.val_main_v10 Cert.ReferenceIdeal.Read.val_main_v9 Cert.ReferenceIdeal.Read.val_main_c_0 Cert.ReferenceIdeal.Read.val_main_v8 Cert.ReferenceIdeal.Read.val_main_v7 Cert.ReferenceIdeal.Read.val_main_c Cert.ReferenceIdeal.Read.val_main_v6
  rw [e1, e3, e5]
  rfl

end Cert.GateUp.Second.Ref
-- ==== Proof.SecondEquation.lean ====
/-
  The value claim of the second layer's call: its result is its reference's, the arguments being finite where they must be.
-/
module

public import proofs.«01_k».proof.Defs
public import proofs.«01_k».proof.Proof.SecondArray
public import proofs.«01_k».proof.Proof.SecondRef
public import proofs.«01_k».proof.Proof.Equation

@[expose] public section

set_option maxRecDepth 16384

noncomputable section

namespace Cert.GateUp.Second

open Idealize.ShloMosaic Idealize.ShloMosaic.TcCoe Idealize.SL.Sem

/-- The side conditions of the precondition's program. -/
theorem preFacts : Cert.Pre_finite_second.Facts where
  bcast_S_S2688 := by decide
  slices_S2x64x16384_S1x64x16384_1_0_0 := by decide
  shapeCasts_S1x64x16384_S64x16384 := by decide
  bcast_S_S64x16384 := by decide
  slices_S2x16384_S1x16384_1_0 := by decide
  shapeCasts_S1x16384_S16384 := by decide
  bcast_S_S16384 := by decide

/-- The precondition gives what the value proof needs of the arguments. -/
theorem finite_of_pre (m : (ℓ : Loc Cert.SecondIdeal.nD Cert.SecondIdeal.τ Cert.SecondIdeal.sig) → Buf (Elt Ideal) ℓ)
    (h : Cert.Pre_SecondIdeal_finite_second (hPre_finite_second := preFacts) m) (c : Dev Cert.SecondIdeal.nD) : Finite 1 (scOf m c) (wsOf m c) (wmOf m c) where
  scale r := by
    have e := congrFun (h c).1 (ix1 r)
    unfold Cert.Pre_finite_second.fn at e
    dsimp only at e
    pointwise at e
    exact isNum_of_test _ e
  group k j := by
    have e := congrFun (h c).2.1 (ix2 k j)
    unfold Cert.Pre_finite_second.fn at e
    dsimp only at e
    pointwise at e
    exact isNum_of_test _ e
  sums j := by
    have e := congrFun (h c).2.2 (ix1 j)
    unfold Cert.Pre_finite_second.fn at e
    dsimp only at e
    pointwise at e
    exact isNum_of_test _ e

/-- The kernel and the reference end with equal results. -/
theorem algebraic : Cert.algebraic_SecondIdeal_SecondReferenceIdeal_pre_finite_second (hSecondIdeal := Cert.SecondIdeal.Gen.facts)
    (hSecondReferenceIdeal := Cert.SecondReferenceIdeal.Gen.facts) (hPre_finite_second := preFacts) := by
  intro m g m' g' hpre hargs
  refine ⟨fun c => Cert.SecondIdeal.Value.G10 m c, Cert.SecondIdeal.Value.run m g, ?_⟩
  refine (θ_run (Cert.SecondReferenceIdeal.defs (F := Ideal)) _ _).mono (fun r h c => ?_) (Cert.SecondReferenceIdeal.Value.run (F := Ideal) m' g')
  obtain ⟨hv, hk⟩ := h c
  refine ⟨hv.trans ?_, hk⟩
  obtain ⟨a0, a1, a2, a3, a4, a5⟩ := hargs c
  rw [Cert.SecondReferenceIdeal.Read.val_main_v74_eq, a0, a1, a2, a3, a4, a5]
  funext y
  rw [eq_ix2 y]
  exact (Ref.result_apply _ _ _ _ _ _ _ _).trans (array m c (finite_of_pre m hpre c) _ _).symm

end Cert.GateUp.Second
-- ==== Proof.QuantiseSpec.lean ====
/-
  The quantiser of one row over the extended reals: the row is normalised by its root mean square, and from its least and
  greatest entry come the scale, the zero point and the codes.
-/
module

public import Idealize.ShloMosaic.PureOps.Ideal
public import Idealize.ShloMosaic.PureOps.Ideal.Laws

@[expose] public section

noncomputable section

namespace Cert.Quantise

open Idealize.ShloMosaic

/-- An entry of the row over the root of the mean square and a small constant. -/
def normed (v : Fin 2048 → EReal) (k : Fin 2048) : EReal :=
  Ideal.div (v k) (Ideal.sqrt (Ideal.div (∑ j, v j * v j) (Ideal.ofBits .f32 0x45000000#32) + Ideal.ofBits .f32 0x3727C5AC#32))

/-- The least entry of the normalised row. -/
def low (v : Fin 2048 → EReal) : EReal := Finset.univ.fold min (Ideal.ofBits .f32 0x7F800000#32) fun k => normed v k

/-- The greatest entry of the normalised row. -/
def high (v : Fin 2048 → EReal) : EReal := Finset.univ.fold max (Ideal.ofBits .f32 0xFF800000#32) fun k => normed v k

/-- The scale: one for a constant row, otherwise the range over 255. -/
def scaleOf (v : Fin 2048 → EReal) : EReal :=
  if high v = low v then 1 else Ideal.div (high v - low v) (Ideal.ofBits .f32 0x437F0000#32)

/-- A value put between two integers. -/
def clip (a b : BitVec 32) (x : EReal) : EReal := min ((b.toInt : ℝ) : EReal) (max ((a.toInt : ℝ) : EReal) x)

/-- The zero point: zero for a constant row, otherwise rounded and put between `a` and `b`. -/
def zeroOf (a b : BitVec 32) (v : Fin 2048 → EReal) : EReal :=
  if high v = low v then 0
  else clip a b (Ideal.liftRound Ideal.roundHalfEven
    (Ideal.ofBits .f32 0xC3000000#32 - Ideal.div (low v) (scaleOf v) * Ideal.ofBits .f32 0x3F800800#32))

/-- The code of an entry, from the row and a zero point. -/
def codeOf (a b : BitVec 32) (v : Fin 2048 → EReal) (z : EReal) (k : Fin 2048) : BitVec 8 :=
  Ideal.fptosi 8 (clip a b (Ideal.liftRound Ideal.roundHalfEven (Ideal.div (normed v k) (scaleOf v)) + z))

/-- A value clipped between -128 and 127 after rounding is one of those integers. -/
theorem clip_int (a b : BitVec 32) (ha : a.toInt = -128) (hb : b.toInt = 127) (x : EReal) :
    ∃ n : ℤ, -128 ≤ n ∧ n ≤ 127 ∧ clip a b (Ideal.liftRound Ideal.roundHalfEven x) = ((n : ℝ) : EReal) := by
  unfold clip
  rw [ha, hb]
  induction x using EReal.rec with
  | bot =>
    refine ⟨-128, by norm_num, by norm_num, ?_⟩
    show min _ (max _ (⊥ : EReal)) = _
    rw [max_eq_left bot_le, min_eq_right (EReal.coe_le_coe_iff.2 (by norm_num))]
  | top => exact ⟨127, by norm_num, by norm_num, by simp⟩
  | coe r =>
    rw [Ideal.liftRound_coe]
    refine ⟨min 127 (max (-128) (Ideal.roundHalfEven r)), by omega, by omega, ?_⟩
    push_cast
    rfl

/-- The zero point is an integer from -128 to 127. -/
theorem zeroOf_int (a b : BitVec 32) (ha : a.toInt = -128) (hb : b.toInt = 127) (v : Fin 2048 → EReal) :
    ∃ n : ℤ, -128 ≤ n ∧ n ≤ 127 ∧ zeroOf a b v = ((n : ℝ) : EReal) := by
  unfold zeroOf
  split
  · exact ⟨0, by norm_num, by norm_num, by simp⟩
  · exact clip_int a b ha hb _

/-- Turning a small integer into a word and back changes nothing. -/
theorem fptosi_toInt (n : ℤ) (h1 : -128 ≤ n) (h2 : n ≤ 127) : (Ideal.fptosi 32 ((n : ℝ) : EReal)).toInt = n := by
  unfold Ideal.fptosi
  rw [Ideal.toIntClamped_coe]
  have hr : (if (0 : ℝ) ≤ (n : ℝ) then ⌊(n : ℝ)⌋ else ⌈(n : ℝ)⌉) = n := by split <;> simp
  rw [hr, BitVec.toInt_ofInt]
  norm_num
  have : max (-2147483648) (min 2147483647 n) = n := by omega
  rw [this]
  exact Int.bmod_eq_of_le (by norm_num; omega) (by norm_num; omega)

/-- The zero point as a word, read as a number again. -/
theorem zeroOf_back (a b : BitVec 32) (ha : a.toInt = -128) (hb : b.toInt = 127) (v : Fin 2048 → EReal) :
    (((Ideal.fptosi 32 (zeroOf a b v)).toInt : ℝ) : EReal) = zeroOf a b v := by
  obtain ⟨n, h1, h2, e⟩ := zeroOf_int a b ha hb v
  rw [e, fptosi_toInt n h1 h2]

end Cert.Quantise
-- ==== Proof.QuantiseBody.lean ====
/-
  What the kernel's body computes for the block of rows it reads, entry by entry: the quantiser of each of the 448 rows.
-/
module

public import proofs.«01_k».proof.Proof.Gen.QkvIdeal.Skeleton
public import proofs.«01_k».proof.Proof.QuantiseSpec
public import Idealize.ShloMosaic.Lib.Pipeline.ValueKit.Point

@[expose] public section

set_option maxRecDepth 16384

noncomputable section

namespace Cert.Quantise.Body

open Idealize.ShloMosaic Idealize.ShloMosaic.Tactic
open Cert.QkvIdeal Cert.QkvIdeal.Gen

variable (x : Vec Ideal S448x2048 .bf16) (r : Fin 448)

/-- The normalised array. -/
theorem normed_apply (k : Fin 2048) : k0_pay145 x (ix2 r k) = normed (fun j => x (ix2 r j)) k := by
  unfold k0_pay145 normed
  pointwise

/-- Each row's least entry. -/
theorem low_apply : k0_pay146 x (ix2 r 0) = low fun j => x (ix2 r j) := by
  unfold k0_pay146 low
  pointwise
  simp only [normed_apply]

/-- Each row's greatest entry. -/
theorem high_apply : k0_pay147 x (ix2 r 0) = high fun j => x (ix2 r j) := by
  unfold k0_pay147 high
  pointwise
  simp only [normed_apply]

/-- Each row's scale. -/
theorem scale_apply : k0_pay149 x (ix2 r 0) = scaleOf fun j => x (ix2 r j) := by
  have key : ∀ (h l : FVec Ideal S448x1 .f32) (c : BitVec 32),
      select (cmpf .oeq h l) (broadcast S448x1 (Scalar.ofBits .f32 0x3F800000#32 : Ideal .f32))
        (divf (subf h l) (broadcast S448x1 (Scalar.ofBits .f32 c))) (ix2 r 0)
      = if h (ix2 r 0) = l (ix2 r 0) then 1 else Ideal.div (h (ix2 r 0) - l (ix2 r 0)) (Ideal.ofBits .f32 c) := by
    intro h l c
    pointwise
  rw [scaleOf, ← high_apply x r, ← low_apply x r]
  exact key _ _ _

/-- Each row's zero point. -/
theorem zero_apply : k0_pay150 x (ix2 r 0) = zeroOf 4294967168#32 127#32 fun j => x (ix2 r j) := by
  have key : ∀ (h l s : FVec Ideal S448x1 .f32) (a b c d : BitVec 32),
      select (cmpf .oeq h l) (broadcast S448x1 (Scalar.ofBits .f32 0x00000000#32 : Ideal .f32))
        (minimumf (broadcast S448x1 (Scalar.sitofp .f32 b)) (maximumf (broadcast S448x1 (Scalar.sitofp .f32 a))
          (roundeven (subf (broadcast S448x1 (Scalar.ofBits .f32 c)) (mulf (divf l s) (broadcast S448x1 (Scalar.ofBits .f32 d)))))))
        (ix2 r 0)
      = if h (ix2 r 0) = l (ix2 r 0) then 0 else clip a b (Ideal.liftRound Ideal.roundHalfEven
          (Ideal.ofBits .f32 c - Ideal.div (l (ix2 r 0)) (s (ix2 r 0)) * Ideal.ofBits .f32 d)) := by
    intro h l s a b c d
    unfold clip
    pointwise
  rw [zeroOf, ← high_apply x r, ← low_apply x r, ← scale_apply x r]
  exact key (k0_pay147 x) (k0_pay146 x) (k0_pay149 x) _ _ _ _

/-- The codes. -/
theorem code_apply (k : Fin 2048) : k0_pay154 (k0_pay150 x) (k0_pay151 x) (ix2 r k)
    = codeOf 4294967168#32 127#32 (fun j => x (ix2 r j)) (k0_pay150 x (ix2 r 0)) k := by
  have key : ∀ (n : FVec Ideal S448x2048 .f32) (s z : FVec Ideal S448x1 .f32) (a b : BitVec 32),
      fptosi 8 (minimumf (broadcast S448x2048 (Scalar.sitofp .f32 b)) (maximumf (broadcast S448x2048 (Scalar.sitofp .f32 a))
        (addf (roundeven (divf n (broadcastTo S448x2048 s broadcasts_S448x1_S448x2048)))
          (broadcastTo S448x2048 z broadcasts_S448x1_S448x2048)))) (ix2 r k)
      = Ideal.fptosi 8 (clip a b (Ideal.liftRound Ideal.roundHalfEven (Ideal.div (n (ix2 r k)) (s (ix2 r 0))) + z (ix2 r 0))) := by
    intro n s z a b
    unfold clip
    pointwise
    rfl
  rw [codeOf, ← normed_apply x r, ← scale_apply x r]
  exact key (k0_pay145 x) (k0_pay149 x) (k0_pay150 x) _ _

/-- A column of scales laid out as a row. -/
theorem scaleRow_apply (s : FVec Ideal S448x1 .f32) : k0_pay155 s (ix3 0 0 r) = s (ix2 r 0) := by
  unfold k0_pay155
  pointwise

/-- A column of zero points laid out as a row of words. -/
theorem zeroRow_apply (z : FVec Ideal S448x1 .f32) : k0_pay156 z (ix3 0 0 r) = Ideal.fptosi 32 (z (ix2 r 0)) := by
  unfold k0_pay156
  pointwise
  rfl

end Cert.Quantise.Body
-- ==== Proof.QuantisePoint.lean ====
/-
  What one grid point leaves in the three results: the codes, scales and zero points of the rows it reads.
-/
module

public import proofs.«01_k».proof.Proof.Gen.QkvIdeal.Value
public import proofs.«01_k».proof.Proof.QuantiseBody

@[expose] public section

set_option maxRecDepth 16384

noncomputable section

namespace Cert.Quantise

open Idealize.ShloMosaic Idealize.ShloMosaic.TcCoe Idealize.ShloMosaic.Tactic
open Cert.QkvIdeal Cert.QkvIdeal.Gen

set_option maxHeartbeats 1000000 in
/-- At the first point: the codes. -/
theorem codesA (c : Dev nD) (i : grid0.Coords) (arg1 : Memref sig .tc .vmem S448x2048 .bf16) (harg1 : arg1.IsWhole) (arg2 : Memref sig .tc .vmem S1x1024x3072 .i8) (harg2 : arg2.IsWhole) (arg3 : Memref sig .tc .vmem S1x64x3072 .f32) (harg3 : arg3.IsWhole) (arg4 : Memref sig .tc .vmem S1x1x3072 .f32) (harg4 : arg4.IsWhole) (arg5 : Memref sig .tc .vmem S1x32x448 .f32) (harg5 : arg5.IsWhole) (arg6 : Memref sig .tc .vmem S1x32x448 .f32) (harg6 : arg6.IsWhole) (arg9 : Memref sig .tc .vmem S448x2048 .i8) (harg9 : arg9.IsWhole) (arg10 : Memref sig .tc .vmem S1x1x448 .f32) (harg10 : arg10.IsWhole) (arg11 : Memref sig .tc .vmem S1x1x448 .i32) (harg11 : arg11.IsWhole) (arg12 : Memref sig .tc .vmem S1x8x7x64x256 .bf16) (harg12 : arg12.IsWhole) (arg13 : Memref sig .tc .vmem S1x1x448x512 .i8) (harg13 : arg13.IsWhole) (arg14 : Memref sig .tc .vmem S1x1x448x512 .i8) (harg14 : arg14.IsWhole) (arg15 : Memref sig .tc .vmem S1x8x448 .f32) (harg15 : arg15.IsWhole) (arg16 : Memref sig .tc .vmem S1x8x448 .f32) (harg16 : arg16.IsWhole) (arg17 : Memref sig .tc .vmem S1x512x448 .bf16) (harg17 : arg17.IsWhole) (arg18 : Memref sig .tc .vmem S2048x3072 .bf16) (harg18 : arg18.IsWhole) (arg19 : Memref sig .tc .vmem S64x2x3072 .bf16) (harg19 : arg19.IsWhole) (arg20 : Memref sig .tc .vmem S448x2048 .bf16) (harg20 : arg20.IsWhole) (hc0 : cond0_0 i)
    (x0 : Vec Ideal S448x2048 .bf16) (x1 : Vec Ideal S1x1024x3072 .i8) (x2 : Vec Ideal S1x64x3072 .f32) (x3 : Vec Ideal S1x1x3072 .f32) (x4 : Vec Ideal S1x32x448 .f32) (x5 : Vec Ideal S1x32x448 .f32) :
    out0_A_6 c i arg1 harg1 arg2 harg2 arg3 harg3 arg4 harg4 arg5 harg5 arg6 harg6 arg9 harg9 arg10 harg10 arg11 harg11 arg12 harg12 arg13 harg13 arg14 harg14 arg15 harg15 arg16 harg16 arg17 harg17 arg18 harg18 arg19 harg19 arg20 harg20 hc0 x0 x1 x2 x3 x4 x5 = k0_pay154 (k0_pay150 x0) (k0_pay151 x0) := by
  have hc := cover0_A_6 c i arg1 harg1 arg2 harg2 arg3 harg3 arg4 harg4 arg5 harg5 arg6 harg6 arg9 harg9 arg10 harg10 arg11 harg11 arg12 harg12 arg13 harg13 arg14 harg14 arg15 harg15 arg16 harg16 arg17 harg17 arg18 harg18 arg19 harg19 arg20 harg20 hc0 x0 x1 x2 x3 x4 x5
  unfold out0_A_6
  rw [View.read_writes_eq_canon _ _ _ hc]
  clear hc
  unfold kernelRun0_A
  dsimp only
  simp (disch := decide) only [kernelRun0_A.sl.r_52, kernelRun0_A.sl.r_53, kernelRun0_A.sl.r_54, View.readAt_eq_ld, harg1.read_unread, View.ld_unit_lit]
  exact View.canon_unit_zero (by decide) _ _

set_option maxHeartbeats 1000000 in
/-- At the first point: the scales. -/
theorem scalesA (c : Dev nD) (i : grid0.Coords) (arg1 : Memref sig .tc .vmem S448x2048 .bf16) (harg1 : arg1.IsWhole) (arg2 : Memref sig .tc .vmem S1x1024x3072 .i8) (harg2 : arg2.IsWhole) (arg3 : Memref sig .tc .vmem S1x64x3072 .f32) (harg3 : arg3.IsWhole) (arg4 : Memref sig .tc .vmem S1x1x3072 .f32) (harg4 : arg4.IsWhole) (arg5 : Memref sig .tc .vmem S1x32x448 .f32) (harg5 : arg5.IsWhole) (arg6 : Memref sig .tc .vmem S1x32x448 .f32) (harg6 : arg6.IsWhole) (arg9 : Memref sig .tc .vmem S448x2048 .i8) (harg9 : arg9.IsWhole) (arg10 : Memref sig .tc .vmem S1x1x448 .f32) (harg10 : arg10.IsWhole) (arg11 : Memref sig .tc .vmem S1x1x448 .i32) (harg11 : arg11.IsWhole) (arg12 : Memref sig .tc .vmem S1x8x7x64x256 .bf16) (harg12 : arg12.IsWhole) (arg13 : Memref sig .tc .vmem S1x1x448x512 .i8) (harg13 : arg13.IsWhole) (arg14 : Memref sig .tc .vmem S1x1x448x512 .i8) (harg14 : arg14.IsWhole) (arg15 : Memref sig .tc .vmem S1x8x448 .f32) (harg15 : arg15.IsWhole) (arg16 : Memref sig .tc .vmem S1x8x448 .f32) (harg16 : arg16.IsWhole) (arg17 : Memref sig .tc .vmem S1x512x448 .bf16) (harg17 : arg17.IsWhole) (arg18 : Memref sig .tc .vmem S2048x3072 .bf16) (harg18 : arg18.IsWhole) (arg19 : Memref sig .tc .vmem S64x2x3072 .bf16) (harg19 : arg19.IsWhole) (arg20 : Memref sig .tc .vmem S448x2048 .bf16) (harg20 : arg20.IsWhole) (hc0 : cond0_0 i)
    (x0 : Vec Ideal S448x2048 .bf16) (x1 : Vec Ideal S1x1024x3072 .i8) (x2 : Vec Ideal S1x64x3072 .f32) (x3 : Vec Ideal S1x1x3072 .f32) (x4 : Vec Ideal S1x32x448 .f32) (x5 : Vec Ideal S1x32x448 .f32) :
    out0_A_7 c i arg1 harg1 arg2 harg2 arg3 harg3 arg4 harg4 arg5 harg5 arg6 harg6 arg9 harg9 arg10 harg10 arg11 harg11 arg12 harg12 arg13 harg13 arg14 harg14 arg15 harg15 arg16 harg16 arg17 harg17 arg18 harg18 arg19 harg19 arg20 harg20 hc0 x0 x1 x2 x3 x4 x5 = k0_pay155 (k0_pay149 x0) := by
  have hc := cover0_A_7 c i arg1 harg1 arg2 harg2 arg3 harg3 arg4 harg4 arg5 harg5 arg6 harg6 arg9 harg9 arg10 harg10 arg11 harg11 arg12 harg12 arg13 harg13 arg14 harg14 arg15 harg15 arg16 harg16 arg17 harg17 arg18 harg18 arg19 harg19 arg20 harg20 hc0 x0 x1 x2 x3 x4 x5
  unfold out0_A_7
  rw [View.read_writes_eq_canon _ _ _ hc]
  clear hc
  unfold kernelRun0_A
  dsimp only
  simp (disch := decide) only [kernelRun0_A.sl.r_52, kernelRun0_A.sl.r_53, kernelRun0_A.sl.r_54, View.readAt_eq_ld, harg1.read_unread, View.ld_unit_lit]
  exact View.canon_unit_zero (by decide) _ _

set_option maxHeartbeats 1000000 in
/-- At the first point: the zero points. -/
theorem zerosA (c : Dev nD) (i : grid0.Coords) (arg1 : Memref sig .tc .vmem S448x2048 .bf16) (harg1 : arg1.IsWhole) (arg2 : Memref sig .tc .vmem S1x1024x3072 .i8) (harg2 : arg2.IsWhole) (arg3 : Memref sig .tc .vmem S1x64x3072 .f32) (harg3 : arg3.IsWhole) (arg4 : Memref sig .tc .vmem S1x1x3072 .f32) (harg4 : arg4.IsWhole) (arg5 : Memref sig .tc .vmem S1x32x448 .f32) (harg5 : arg5.IsWhole) (arg6 : Memref sig .tc .vmem S1x32x448 .f32) (harg6 : arg6.IsWhole) (arg9 : Memref sig .tc .vmem S448x2048 .i8) (harg9 : arg9.IsWhole) (arg10 : Memref sig .tc .vmem S1x1x448 .f32) (harg10 : arg10.IsWhole) (arg11 : Memref sig .tc .vmem S1x1x448 .i32) (harg11 : arg11.IsWhole) (arg12 : Memref sig .tc .vmem S1x8x7x64x256 .bf16) (harg12 : arg12.IsWhole) (arg13 : Memref sig .tc .vmem S1x1x448x512 .i8) (harg13 : arg13.IsWhole) (arg14 : Memref sig .tc .vmem S1x1x448x512 .i8) (harg14 : arg14.IsWhole) (arg15 : Memref sig .tc .vmem S1x8x448 .f32) (harg15 : arg15.IsWhole) (arg16 : Memref sig .tc .vmem S1x8x448 .f32) (harg16 : arg16.IsWhole) (arg17 : Memref sig .tc .vmem S1x512x448 .bf16) (harg17 : arg17.IsWhole) (arg18 : Memref sig .tc .vmem S2048x3072 .bf16) (harg18 : arg18.IsWhole) (arg19 : Memref sig .tc .vmem S64x2x3072 .bf16) (harg19 : arg19.IsWhole) (arg20 : Memref sig .tc .vmem S448x2048 .bf16) (harg20 : arg20.IsWhole) (hc0 : cond0_0 i)
    (x0 : Vec Ideal S448x2048 .bf16) (x1 : Vec Ideal S1x1024x3072 .i8) (x2 : Vec Ideal S1x64x3072 .f32) (x3 : Vec Ideal S1x1x3072 .f32) (x4 : Vec Ideal S1x32x448 .f32) (x5 : Vec Ideal S1x32x448 .f32) :
    out0_A_8 c i arg1 harg1 arg2 harg2 arg3 harg3 arg4 harg4 arg5 harg5 arg6 harg6 arg9 harg9 arg10 harg10 arg11 harg11 arg12 harg12 arg13 harg13 arg14 harg14 arg15 harg15 arg16 harg16 arg17 harg17 arg18 harg18 arg19 harg19 arg20 harg20 hc0 x0 x1 x2 x3 x4 x5 = k0_pay156 (k0_pay150 x0) := by
  have hc := cover0_A_8 c i arg1 harg1 arg2 harg2 arg3 harg3 arg4 harg4 arg5 harg5 arg6 harg6 arg9 harg9 arg10 harg10 arg11 harg11 arg12 harg12 arg13 harg13 arg14 harg14 arg15 harg15 arg16 harg16 arg17 harg17 arg18 harg18 arg19 harg19 arg20 harg20 hc0 x0 x1 x2 x3 x4 x5
  unfold out0_A_8
  rw [View.read_writes_eq_canon _ _ _ hc]
  clear hc
  unfold kernelRun0_A
  dsimp only
  simp (disch := decide) only [kernelRun0_A.sl.r_52, kernelRun0_A.sl.r_53, kernelRun0_A.sl.r_54, View.readAt_eq_ld, harg1.read_unread, View.ld_unit_lit]
  exact View.canon_unit_zero (by decide) _ _

set_option maxHeartbeats 1000000 in
/-- At a later point: the codes. -/
theorem codesB (c : Dev nD) (i : grid0.Coords) (arg1 : Memref sig .tc .vmem S448x2048 .bf16) (harg1 : arg1.IsWhole) (arg2 : Memref sig .tc .vmem S1x1024x3072 .i8) (harg2 : arg2.IsWhole) (arg3 : Memref sig .tc .vmem S1x64x3072 .f32) (harg3 : arg3.IsWhole) (arg4 : Memref sig .tc .vmem S1x1x3072 .f32) (harg4 : arg4.IsWhole) (arg5 : Memref sig .tc .vmem S1x32x448 .f32) (harg5 : arg5.IsWhole) (arg6 : Memref sig .tc .vmem S1x32x448 .f32) (harg6 : arg6.IsWhole) (arg9 : Memref sig .tc .vmem S448x2048 .i8) (harg9 : arg9.IsWhole) (arg10 : Memref sig .tc .vmem S1x1x448 .f32) (harg10 : arg10.IsWhole) (arg11 : Memref sig .tc .vmem S1x1x448 .i32) (harg11 : arg11.IsWhole) (arg12 : Memref sig .tc .vmem S1x8x7x64x256 .bf16) (harg12 : arg12.IsWhole) (arg13 : Memref sig .tc .vmem S1x1x448x512 .i8) (harg13 : arg13.IsWhole) (arg14 : Memref sig .tc .vmem S1x1x448x512 .i8) (harg14 : arg14.IsWhole) (arg15 : Memref sig .tc .vmem S1x8x448 .f32) (harg15 : arg15.IsWhole) (arg16 : Memref sig .tc .vmem S1x8x448 .f32) (harg16 : arg16.IsWhole) (arg17 : Memref sig .tc .vmem S1x512x448 .bf16) (harg17 : arg17.IsWhole) (arg18 : Memref sig .tc .vmem S2048x3072 .bf16) (harg18 : arg18.IsWhole) (arg19 : Memref sig .tc .vmem S64x2x3072 .bf16) (harg19 : arg19.IsWhole) (arg20 : Memref sig .tc .vmem S448x2048 .bf16) (harg20 : arg20.IsWhole) (hc0 : ¬cond0_0 i)
    (x0 : Vec Ideal S448x2048 .bf16) (x1 : Vec Ideal S1x1024x3072 .i8) (x2 : Vec Ideal S1x64x3072 .f32) (x3 : Vec Ideal S1x1x3072 .f32) (x4 : Vec Ideal S1x32x448 .f32) (x5 : Vec Ideal S1x32x448 .f32) (xs0 : Vec Ideal S2048x3072 .bf16) :
    out0_B_6 c i arg1 harg1 arg2 harg2 arg3 harg3 arg4 harg4 arg5 harg5 arg6 harg6 arg9 harg9 arg10 harg10 arg11 harg11 arg12 harg12 arg13 harg13 arg14 harg14 arg15 harg15 arg16 harg16 arg17 harg17 arg18 harg18 arg19 harg19 arg20 harg20 hc0 x0 x1 x2 x3 x4 x5 xs0 = k0_pay154 (k0_pay150 x0) (k0_pay151 x0) := by
  have hc := cover0_B_6 c i arg1 harg1 arg2 harg2 arg3 harg3 arg4 harg4 arg5 harg5 arg6 harg6 arg9 harg9 arg10 harg10 arg11 harg11 arg12 harg12 arg13 harg13 arg14 harg14 arg15 harg15 arg16 harg16 arg17 harg17 arg18 harg18 arg19 harg19 arg20 harg20 hc0 x0 x1 x2 x3 x4 x5 xs0
  unfold out0_B_6
  rw [View.read_writes_eq_canon _ _ _ hc]
  clear hc
  unfold kernelRun0_B
  dsimp only
  simp (disch := decide) only [kernelRun0_B.sl.r, kernelRun0_B.sl.r_1, kernelRun0_B.sl.r_2, View.readAt_eq_ld, harg1.read_unread, View.ld_unit_lit]
  exact View.canon_unit_zero (by decide) _ _

set_option maxHeartbeats 1000000 in
/-- At a later point: the scales. -/
theorem scalesB (c : Dev nD) (i : grid0.Coords) (arg1 : Memref sig .tc .vmem S448x2048 .bf16) (harg1 : arg1.IsWhole) (arg2 : Memref sig .tc .vmem S1x1024x3072 .i8) (harg2 : arg2.IsWhole) (arg3 : Memref sig .tc .vmem S1x64x3072 .f32) (harg3 : arg3.IsWhole) (arg4 : Memref sig .tc .vmem S1x1x3072 .f32) (harg4 : arg4.IsWhole) (arg5 : Memref sig .tc .vmem S1x32x448 .f32) (harg5 : arg5.IsWhole) (arg6 : Memref sig .tc .vmem S1x32x448 .f32) (harg6 : arg6.IsWhole) (arg9 : Memref sig .tc .vmem S448x2048 .i8) (harg9 : arg9.IsWhole) (arg10 : Memref sig .tc .vmem S1x1x448 .f32) (harg10 : arg10.IsWhole) (arg11 : Memref sig .tc .vmem S1x1x448 .i32) (harg11 : arg11.IsWhole) (arg12 : Memref sig .tc .vmem S1x8x7x64x256 .bf16) (harg12 : arg12.IsWhole) (arg13 : Memref sig .tc .vmem S1x1x448x512 .i8) (harg13 : arg13.IsWhole) (arg14 : Memref sig .tc .vmem S1x1x448x512 .i8) (harg14 : arg14.IsWhole) (arg15 : Memref sig .tc .vmem S1x8x448 .f32) (harg15 : arg15.IsWhole) (arg16 : Memref sig .tc .vmem S1x8x448 .f32) (harg16 : arg16.IsWhole) (arg17 : Memref sig .tc .vmem S1x512x448 .bf16) (harg17 : arg17.IsWhole) (arg18 : Memref sig .tc .vmem S2048x3072 .bf16) (harg18 : arg18.IsWhole) (arg19 : Memref sig .tc .vmem S64x2x3072 .bf16) (harg19 : arg19.IsWhole) (arg20 : Memref sig .tc .vmem S448x2048 .bf16) (harg20 : arg20.IsWhole) (hc0 : ¬cond0_0 i)
    (x0 : Vec Ideal S448x2048 .bf16) (x1 : Vec Ideal S1x1024x3072 .i8) (x2 : Vec Ideal S1x64x3072 .f32) (x3 : Vec Ideal S1x1x3072 .f32) (x4 : Vec Ideal S1x32x448 .f32) (x5 : Vec Ideal S1x32x448 .f32) (xs0 : Vec Ideal S2048x3072 .bf16) :
    out0_B_7 c i arg1 harg1 arg2 harg2 arg3 harg3 arg4 harg4 arg5 harg5 arg6 harg6 arg9 harg9 arg10 harg10 arg11 harg11 arg12 harg12 arg13 harg13 arg14 harg14 arg15 harg15 arg16 harg16 arg17 harg17 arg18 harg18 arg19 harg19 arg20 harg20 hc0 x0 x1 x2 x3 x4 x5 xs0 = k0_pay155 (k0_pay149 x0) := by
  have hc := cover0_B_7 c i arg1 harg1 arg2 harg2 arg3 harg3 arg4 harg4 arg5 harg5 arg6 harg6 arg9 harg9 arg10 harg10 arg11 harg11 arg12 harg12 arg13 harg13 arg14 harg14 arg15 harg15 arg16 harg16 arg17 harg17 arg18 harg18 arg19 harg19 arg20 harg20 hc0 x0 x1 x2 x3 x4 x5 xs0
  unfold out0_B_7
  rw [View.read_writes_eq_canon _ _ _ hc]
  clear hc
  unfold kernelRun0_B
  dsimp only
  simp (disch := decide) only [kernelRun0_B.sl.r, kernelRun0_B.sl.r_1, kernelRun0_B.sl.r_2, View.readAt_eq_ld, harg1.read_unread, View.ld_unit_lit]
  exact View.canon_unit_zero (by decide) _ _

set_option maxHeartbeats 1000000 in
/-- At a later point: the zero points. -/
theorem zerosB (c : Dev nD) (i : grid0.Coords) (arg1 : Memref sig .tc .vmem S448x2048 .bf16) (harg1 : arg1.IsWhole) (arg2 : Memref sig .tc .vmem S1x1024x3072 .i8) (harg2 : arg2.IsWhole) (arg3 : Memref sig .tc .vmem S1x64x3072 .f32) (harg3 : arg3.IsWhole) (arg4 : Memref sig .tc .vmem S1x1x3072 .f32) (harg4 : arg4.IsWhole) (arg5 : Memref sig .tc .vmem S1x32x448 .f32) (harg5 : arg5.IsWhole) (arg6 : Memref sig .tc .vmem S1x32x448 .f32) (harg6 : arg6.IsWhole) (arg9 : Memref sig .tc .vmem S448x2048 .i8) (harg9 : arg9.IsWhole) (arg10 : Memref sig .tc .vmem S1x1x448 .f32) (harg10 : arg10.IsWhole) (arg11 : Memref sig .tc .vmem S1x1x448 .i32) (harg11 : arg11.IsWhole) (arg12 : Memref sig .tc .vmem S1x8x7x64x256 .bf16) (harg12 : arg12.IsWhole) (arg13 : Memref sig .tc .vmem S1x1x448x512 .i8) (harg13 : arg13.IsWhole) (arg14 : Memref sig .tc .vmem S1x1x448x512 .i8) (harg14 : arg14.IsWhole) (arg15 : Memref sig .tc .vmem S1x8x448 .f32) (harg15 : arg15.IsWhole) (arg16 : Memref sig .tc .vmem S1x8x448 .f32) (harg16 : arg16.IsWhole) (arg17 : Memref sig .tc .vmem S1x512x448 .bf16) (harg17 : arg17.IsWhole) (arg18 : Memref sig .tc .vmem S2048x3072 .bf16) (harg18 : arg18.IsWhole) (arg19 : Memref sig .tc .vmem S64x2x3072 .bf16) (harg19 : arg19.IsWhole) (arg20 : Memref sig .tc .vmem S448x2048 .bf16) (harg20 : arg20.IsWhole) (hc0 : ¬cond0_0 i)
    (x0 : Vec Ideal S448x2048 .bf16) (x1 : Vec Ideal S1x1024x3072 .i8) (x2 : Vec Ideal S1x64x3072 .f32) (x3 : Vec Ideal S1x1x3072 .f32) (x4 : Vec Ideal S1x32x448 .f32) (x5 : Vec Ideal S1x32x448 .f32) (xs0 : Vec Ideal S2048x3072 .bf16) :
    out0_B_8 c i arg1 harg1 arg2 harg2 arg3 harg3 arg4 harg4 arg5 harg5 arg6 harg6 arg9 harg9 arg10 harg10 arg11 harg11 arg12 harg12 arg13 harg13 arg14 harg14 arg15 harg15 arg16 harg16 arg17 harg17 arg18 harg18 arg19 harg19 arg20 harg20 hc0 x0 x1 x2 x3 x4 x5 xs0 = k0_pay156 (k0_pay150 x0) := by
  have hc := cover0_B_8 c i arg1 harg1 arg2 harg2 arg3 harg3 arg4 harg4 arg5 harg5 arg6 harg6 arg9 harg9 arg10 harg10 arg11 harg11 arg12 harg12 arg13 harg13 arg14 harg14 arg15 harg15 arg16 harg16 arg17 harg17 arg18 harg18 arg19 harg19 arg20 harg20 hc0 x0 x1 x2 x3 x4 x5 xs0
  unfold out0_B_8
  rw [View.read_writes_eq_canon _ _ _ hc]
  clear hc
  unfold kernelRun0_B
  dsimp only
  simp (disch := decide) only [kernelRun0_B.sl.r, kernelRun0_B.sl.r_1, kernelRun0_B.sl.r_2, View.readAt_eq_ld, harg1.read_unread, View.ld_unit_lit]
  exact View.canon_unit_zero (by decide) _ _

end Cert.Quantise
-- ==== Proof.QuantiseArray.lean ====
/-
  The kernel's result arrays after the run, entry by entry: the quantiser of the rows of its first argument.
-/
module

public import proofs.«01_k».proof.Proof.QuantisePoint

@[expose] public section

set_option maxRecDepth 16384

noncomputable section

namespace Cert.Quantise

open Idealize.ShloMosaic Idealize.ShloMosaic.TcCoe Idealize.ShloMosaic.Tactic
open Cert.QkvIdeal Cert.QkvIdeal.Gen Cert.QkvIdeal.Value

variable (m : (ℓ : Loc nD τ sig) → Buf (Elt Ideal) ℓ)

/-- Where the blocks lie at a point: the point's 448 rows. Each point writes its three blocks back. -/
theorem idx : ∀ t : Fin cfg0.N, (win0_0.index t 0 = t.val ∧ win0_0.index t 1 = 0) ∧ (win0_6.index t 0 = t.val ∧ win0_6.index t 1 = 0)
    ∧ (win0_7.index t 0 = t.val ∧ win0_7.index t 1 = 0 ∧ win0_7.index t 2 = 0)
    ∧ (win0_8.index t 0 = t.val ∧ win0_8.index t 1 = 0 ∧ win0_8.index t 2 = 0)
    ∧ (cfg0.win 6).flush t = true ∧ (cfg0.win 7).flush t = true ∧ (cfg0.win 8).flush t = true :=
  (by decide +kernel : ∀ t : Fin grid0.N, _)

/-- The index of an entry of the argument, from its row's number. -/
theorem apart (f : Vec Ideal S6x448x2048 .bf16) (p : Fin 2688) (q : Fin 2048) (b : Fin 6) (s : Fin 448) (k : Fin 2048)
    (h₁ : p.val / 448 < 6) (h₂ : p.val % 448 < 448) (hp : p.val = b.val * 448 + s.val) (hq : q = k) :
    f (ix3 ⟨p.val / 448, h₁⟩ ⟨p.val % 448, h₂⟩ q) = f (ix3 b s k) := by
  have hs := s.isLt
  subst hq
  rw [show (⟨p.val / 448, h₁⟩ : Fin 6) = b from Fin.ext (by dsimp only; omega),
    show (⟨p.val % 448, h₂⟩ : Fin 448) = s from Fin.ext (by dsimp only; omega)]

/-- The rows read: the first argument's, its two leading axes as one. -/
theorem blk0 (c : Dev nD) (t : Fin cfg0.N) (b : Fin 6) (hb : b.val = t.val) (s : Fin 448) (k : Fin 2048) :
    (iblk m c 0 t : Vec Ideal S448x2048 .bf16) (ix2 s k) = m ((c : Thread nD τ).loc main_arg0) (ix3 b s k) := by
  blk_simp [iblk, idx t]
  entry_read
  pointwise
  have h0 : (((View.whole main_v2).slice (win0_0.rect t)).emb (ix2 s k) 0).val = t.val * 448 + s.val := by
    show win0_0.index t 0 * 448 + 1 * s.val = _
    rw [(idx t).1.1]; omega
  have h1 : (((View.whole main_v2).slice (win0_0.rect t)).emb (ix2 s k) 1) = k := Fin.ext (by
    show win0_0.index t 1 * 2048 + 1 * k.val = k.val
    rw [(idx t).1.2]; omega)
  exact apart _ _ _ b s k _ _ (h0.trans (by omega)) h1

/-- What a point leaves: codes. -/
theorem codes (c : Dev nD) (t : Fin cfg0.N) : (outsAt0 m c t.val t.isLt).1 = k0_pay154 (k0_pay150 (iblk m c 0 t)) (k0_pay151 (iblk m c 0 t)) := by
  by_cases h0 : t.val % 6 = 0
  · rw [outsAt0_A m c t h0]
    dsimp only
    rw [codesA]
  · rw [outsAt0_B m c t h0]
    dsimp only
    rw [codesB]

/-- What a point leaves: scales. -/
theorem scales (c : Dev nD) (t : Fin cfg0.N) : (outsAt0 m c t.val t.isLt).2.1 = k0_pay155 (k0_pay149 (iblk m c 0 t)) := by
  by_cases h0 : t.val % 6 = 0
  · rw [outsAt0_A m c t h0]
    dsimp only
    rw [scalesA]
  · rw [outsAt0_B m c t h0]
    dsimp only
    rw [scalesB]

/-- What a point leaves: zeros. -/
theorem zeros (c : Dev nD) (t : Fin cfg0.N) : (outsAt0 m c t.val t.isLt).2.2.1 = k0_pay156 (k0_pay150 (iblk m c 0 t)) := by
  by_cases h0 : t.val % 6 = 0
  · rw [outsAt0_A m c t h0]
    dsimp only
    rw [zerosA]
  · rw [outsAt0_B m c t h0]
    dsimp only
    rw [zerosB]

/-- The codes after the run. -/
theorem codes_array (c : Dev nD) (b : Fin 6) (s : Fin 448) (k : Fin 2048) (R : Fin 2688) (hR : R.val = b.val * 448 + s.val) :
    ((dats m 0 c).arrAt 6 cfg0.N : Vec Ideal S2688x2048 .i8) (ix2 R k)
      = codeOf 4294967168#32 127#32 (fun j => (m ((c : Thread nD τ).loc main_arg0) : Vec Ideal S6x448x2048 .bf16) (ix3 b s j))
        (zeroOf 4294967168#32 127#32 fun j => (m ((c : Thread nD τ).loc main_arg0) : Vec Ideal S6x448x2048 .bf16) (ix3 b s j)) k := by
  obtain ⟨t, ht⟩ : ∃ t : Fin cfg0.N, b.val = t.val := ⟨⟨b.val, lt_of_lt_of_eq b.isLt (show 6 = cfg0.N from N_0.symm)⟩, rfl⟩
  have h : ((cfg0.win 6).blk t).view.emb (ix2 s k : S448x2048.Idx) = (ix2 R k : S2688x2048.Idx) := by
    funext a
    apply Fin.ext
    match a with
    | ⟨0, _⟩ => show win0_6.index t 0 * 448 + 1 * s.val = R.val; rw [(idx t).2.1.1]; omega
    | ⟨1, _⟩ => show win0_6.index t 1 * 2048 + 1 * k.val = k.val; rw [(idx t).2.1.2]; omega
  have e := (congrFun (blocks6 m c t (idx t).2.2.2.2.1) (ix2 s k : S448x2048.Idx)).trans (congrFun (flushed6 m c t) (ix2 s k : S448x2048.Idx))
  replace e : (dats m 0 c).arrAt 6 cfg0.N (((cfg0.win 6).blk t).view.emb (ix2 s k : S448x2048.Idx)) = (outsAt0 m c t.val t.isLt).1 (ix2 s k) := e
  rw [h] at e
  refine e.trans ?_
  rw [codes, Body.code_apply, Body.zero_apply]
  simp only [fun j => blk0 m c t b ht s j]

/-- The scales after the run. -/
theorem scales_array (c : Dev nD) (b : Fin 6) (s : Fin 448) :
    ((dats m 0 c).arrAt 7 cfg0.N : Vec Ideal S6x1x448 .f32) (ix3 b 0 s)
      = scaleOf fun j => (m ((c : Thread nD τ).loc main_arg0) : Vec Ideal S6x448x2048 .bf16) (ix3 b s j) := by
  obtain ⟨t, ht⟩ : ∃ t : Fin cfg0.N, b.val = t.val := ⟨⟨b.val, lt_of_lt_of_eq b.isLt (show 6 = cfg0.N from N_0.symm)⟩, rfl⟩
  have h : ((cfg0.win 7).blk t).view.emb (ix3 0 0 s : S1x1x448.Idx) = (ix3 b 0 s : S6x1x448.Idx) := by
    funext a
    apply Fin.ext
    match a with
    | ⟨0, _⟩ => show win0_7.index t 0 * 1 + 1 * 0 = b.val; rw [(idx t).2.2.1.1]; omega
    | ⟨1, _⟩ => show win0_7.index t 1 * 1 + 1 * 0 = 0; rw [(idx t).2.2.1.2.1]
    | ⟨2, _⟩ => show win0_7.index t 2 * 448 + 1 * s.val = s.val; rw [(idx t).2.2.1.2.2]; omega
  have e := (congrFun (blocks7 m c t (idx t).2.2.2.2.2.1) (ix3 0 0 s : S1x1x448.Idx)).trans (congrFun (flushed7 m c t) (ix3 0 0 s : S1x1x448.Idx))
  replace e : (dats m 0 c).arrAt 7 cfg0.N (((cfg0.win 7).blk t).view.emb (ix3 0 0 s : S1x1x448.Idx)) = (outsAt0 m c t.val t.isLt).2.1 (ix3 0 0 s) := e
  rw [h] at e
  refine e.trans ?_
  rw [scales, Body.scaleRow_apply, Body.scale_apply]
  simp only [fun j => blk0 m c t b ht s j]

/-- The zero points after the run. -/
theorem zeros_array (c : Dev nD) (b : Fin 6) (s : Fin 448) :
    ((dats m 0 c).arrAt 8 cfg0.N : Vec Ideal S6x1x448 .i32) (ix3 b 0 s)
      = Ideal.fptosi 32 (zeroOf 4294967168#32 127#32 fun j => (m ((c : Thread nD τ).loc main_arg0) : Vec Ideal S6x448x2048 .bf16) (ix3 b s j)) := by
  obtain ⟨t, ht⟩ : ∃ t : Fin cfg0.N, b.val = t.val := ⟨⟨b.val, lt_of_lt_of_eq b.isLt (show 6 = cfg0.N from N_0.symm)⟩, rfl⟩
  have h : ((cfg0.win 8).blk t).view.emb (ix3 0 0 s : S1x1x448.Idx) = (ix3 b 0 s : S6x1x448.Idx) := by
    funext a
    apply Fin.ext
    match a with
    | ⟨0, _⟩ => show win0_8.index t 0 * 1 + 1 * 0 = b.val; rw [(idx t).2.2.2.1.1]; omega
    | ⟨1, _⟩ => show win0_8.index t 1 * 1 + 1 * 0 = 0; rw [(idx t).2.2.2.1.2.1]
    | ⟨2, _⟩ => show win0_8.index t 2 * 448 + 1 * s.val = s.val; rw [(idx t).2.2.2.1.2.2]; omega
  have e := (congrFun (blocks8 m c t (idx t).2.2.2.2.2.2) (ix3 0 0 s : S1x1x448.Idx)).trans (congrFun (flushed8 m c t) (ix3 0 0 s : S1x1x448.Idx))
  replace e : (dats m 0 c).arrAt 8 cfg0.N (((cfg0.win 8).blk t).view.emb (ix3 0 0 s : S1x1x448.Idx)) = (outsAt0 m c t.val t.isLt).2.2.1 (ix3 0 0 s) := e
  rw [h] at e
  refine e.trans ?_
  rw [zeros, Body.zeroRow_apply, Body.zero_apply]
  simp only [fun j => blk0 m c t b ht s j]

end Cert.Quantise
-- ==== Proof.QuantiseRun.lean ====
/-
  The reference's run: each of its three result arrays named, block by block, and its arguments unchanged.
-/
module

public import proofs.«01_k».proof.Proof.Gen.QkvReferenceIdeal.Frame
public import Idealize.ShloMosaic.Lib.Pipeline.Value

@[expose] public section

noncomputable section

namespace Cert.QkvReferenceIdeal.Value

open Cert.QkvReferenceIdeal Cert.QkvReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 1's array: the body's result for that window , read through the window's block. -/
theorem flushed1 (c : Dev nD) (t : Fin cfg0.N) :
    (dats m 0 c).flushed 1 t = (cfg0.win 1).cut (grid0.coords t) (out0_1 (iblk m c 0 t)) := by
  show (cfg0.win 1).cut (grid0.coords t) ((dats m 0 c).after 1 t) = _
  rw [after0_1]

/-- The index map sends distinct grid points to distinct block indices (decided over the 1 point). -/
theorem idx_inj1 : ∀ t t' : Fin cfg0.N, win0_1.index t = win0_1.index t' → t = t' :=
  (by decide +kernel : ∀ t t' : Fin grid0.N, win0_1.index t = win0_1.index t' → t = t')

/-- So two flushing points' blocks share no array index (Lib/Pipeline/Cells.lean `Window.disjoint_blk`). -/
theorem disjoint1 : ∀ t t' : Fin cfg0.N, (cfg0.win 1).flush t = true → (cfg0.win 1).flush t' = true → t ≠ t' →
    Disjoint ((cfg0.win 1).blk t).view.set ((cfg0.win 1).blk t').view.set :=
  fun t t' _ _ hne => (cfg0.win 1).disjoint_blk fun h => hne (idx_inj1 t t' h)

/-- BLOCK `t` OF THE FINAL ARRAY, read back through the window, is what point `t` wrote back (`flushed1`), for every
    point that writes back: no other point's block meets it. -/
theorem blocks1 (c : Dev nD) (t : Fin cfg0.N) (hf : (cfg0.win 1).flush t = true) :
    ((cfg0.win 1).blk t).view.read (Elt F) ((dats m 0 c).arrAt 1 cfg0.N) = (dats m 0 c).flushed 1 t :=
  (dats m 0 c).read_blk_arrAt_eq_flushed 1 disjoint1 cfg0.N t t.isLt hf

/-- An index that no flushing point's block covers keeps output window 1's array contents at region entry. -/
theorem entry1 (c : Dev nD) (i : S2688x2048.Idx) (h : ∀ t : Fin cfg0.N, (cfg0.win 1).flush t = true → i ∉ ((cfg0.win 1).blk t).view.set) :
    (dats m 0 c).arrAt 1 cfg0.N i = V m c (Pipeline.arrRef spec0 1) i := by
  rw [(dats m 0 c).arrAt_apply_of_forall_not_mem 1 cfg0.N i (fun t _ hf => h t hf), A_eq]

/-- WHAT POINT `t` WRITES BACK to output window 2's array: the body's result for that window (`Gen.out0_2`: its stores
    as pieces over the input windows' blocks), read through the window's block. -/
theorem flushed2 (c : Dev nD) (t : Fin cfg0.N) :
    (dats m 0 c).flushed 2 t = (cfg0.win 2).cut (grid0.coords t) (out0_2 (iblk m c 0 t)) := by
  show (cfg0.win 2).cut (grid0.coords t) ((dats m 0 c).after 2 t) = _
  rw [after0_2]

/-- The index map sends distinct grid points to distinct block indices (decided over the 1 point). -/
theorem idx_inj2 : ∀ t t' : Fin cfg0.N, win0_2.index t = win0_2.index t' → t = t' :=
  (by decide +kernel : ∀ t t' : Fin grid0.N, win0_2.index t = win0_2.index t' → t = t')

/-- So two flushing points' blocks share no array index (Lib/Pipeline/Cells.lean `Window.disjoint_blk`). -/
theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj2 t t' h)

/-- BLOCK `t` OF THE FINAL ARRAY, read back through the window, is what point `t` wrote back (`flushed2`), for every
    point that writes back: no other point's block meets it. -/
theorem blocks2 (c : Dev nD) (t : Fin cfg0.N) (hf : (cfg0.win 2).flush t = true) :
    ((cfg0.win 2).blk t).view.read (Elt F) ((dats m 0 c).arrAt 2 cfg0.N) = (dats m 0 c).flushed 2 t :=
  (dats m 0 c).read_blk_arrAt_eq_flushed 2 disjoint2 cfg0.N t t.isLt hf

/-- An index that no flushing point's block covers keeps output window 2's array contents at region entry. -/
theorem entry2 (c : Dev nD) (i : S6x1x448.Idx) (h : ∀ t : Fin cfg0.N, (cfg0.win 2).flush t = true → i ∉ ((cfg0.win 2).blk t).view.set) :
    (dats m 0 c).arrAt 2 cfg0.N i = V m c (Pipeline.arrRef spec0 2) i := by
  rw [(dats m 0 c).arrAt_apply_of_forall_not_mem 2 cfg0.N i (fun t _ hf => h t hf), A_eq]

/-- WHAT POINT `t` WRITES BACK to output window 3's array: the body's result for that window (`Gen.out0_3`: its stores
    as pieces over the input windows' blocks), read through the window's block. -/
theorem flushed3 (c : Dev nD) (t : Fin cfg0.N) :
    (dats m 0 c).flushed 3 t = (cfg0.win 3).cut (grid0.coords t) (out0_3 (iblk m c 0 t)) := by
  show (cfg0.win 3).cut (grid0.coords t) ((dats m 0 c).after 3 t) = _
  rw [after0_3]

/-- The index map sends distinct grid points to distinct block indices (decided over the 1 point). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S6x1x448.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- After the frame run, output window 1's array is `(dats m 0 c).arrAt 1 N`. -/
theorem post1 (r : PUnit × MemSt nD τ sig (Elt F)) (h : Pipeline.FramePost cfgs (dats m) 0 (V m) r) (c : Dev nD) :
    r.2.mem ((c : Thread nD τ).loc main_v1_0) = (dats m 0 c).arrAt 1 cfg0.N :=
  (h c).1 1

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v1_1) = (dats m 0 c).arrAt 2 cfg0.N :=
  (h c).1 2

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v1_2) = (dats m 0 c).arrAt 3 cfg0.N :=
  (h c).1 3

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 1 cfg0.N
      ∧ r.2.mem ((c : Thread nD τ).loc main_v1_1) = (dats m 0 c).arrAt 2 cfg0.N
      ∧ r.2.mem ((c : Thread nD τ).loc main_v1_2) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post1 m r h c,
      post2 m r h c,
      post3 m r h c,
      kept_main_arg0 m r h c,
      kept_main_arg1 m r h c,
      kept_main_arg2 m r h c,
      kept_main_arg3 m r h c,
      kept_main_arg4 m r h c,
      kept_main_arg5 m r h c⟩)
    (run_main m ρ)

end Cert.QkvReferenceIdeal.Value
-- ==== Proof.QuantiseRef.lean ====
/-
  What the reference's body computes, entry by entry: the quantiser of each of the 2688 rows.
-/
module

public import proofs.«01_k».proof.Proof.Gen.QkvReferenceIdeal.Skeleton
public import proofs.«01_k».proof.Proof.QuantiseSpec
public import Idealize.ShloMosaic.Lib.Pipeline.ValueKit.Point

@[expose] public section

set_option maxRecDepth 16384

noncomputable section

namespace Cert.Quantise.Ref

open Idealize.ShloMosaic Idealize.ShloMosaic.Tactic
open Cert.QkvReferenceIdeal Cert.QkvReferenceIdeal.Gen

variable (x : Vec Ideal S2688x2048 .bf16) (r : Fin 2688)

/-- The normalised array. -/
theorem normed_apply (k : Fin 2048) : k0_pay4 x (ix2 r k) = normed (fun j => x (ix2 r j)) k := by
  unfold k0_pay4 normed
  pointwise

/-- Each row's least entry. -/
theorem low_apply : k0_pay5 x (ix2 r 0) = low fun j => x (ix2 r j) := by
  unfold k0_pay5 low
  pointwise
  simp only [normed_apply]

/-- Each row's greatest entry. -/
theorem high_apply : k0_pay6 x (ix2 r 0) = high fun j => x (ix2 r j) := by
  unfold k0_pay6 high
  pointwise
  simp only [normed_apply]

/-- Each row's scale. -/
theorem scale_apply : k0_pay8 x (ix2 r 0) = scaleOf fun j => x (ix2 r j) := by
  have key : ∀ (h l : FVec Ideal S2688x1 .f32) (c : BitVec 32),
      select (cmpf .oeq h l) (broadcast S2688x1 (Scalar.ofBits .f32 0x3F800000#32 : Ideal .f32))
        (divf (subf h l) (broadcast S2688x1 (Scalar.ofBits .f32 c))) (ix2 r 0)
      = if h (ix2 r 0) = l (ix2 r 0) then 1 else Ideal.div (h (ix2 r 0) - l (ix2 r 0)) (Ideal.ofBits .f32 c) := by
    intro h l c
    pointwise
  rw [scaleOf, ← high_apply x r, ← low_apply x r]
  exact key _ _ _

/-- Each row's zero point, as a word. -/
theorem zero_apply : k0_pay9 x (ix2 r 0) = Ideal.fptosi 32 (zeroOf 4294967168#32 127#32 fun j => x (ix2 r j)) := by
  have key : ∀ (h l s : FVec Ideal S2688x1 .f32) (a b c d : BitVec 32),
      fptosi 32 (select (cmpf .oeq h l) (broadcast S2688x1 (Scalar.ofBits .f32 0x00000000#32 : Ideal .f32))
        (minimumf (broadcast S2688x1 (Scalar.sitofp .f32 b)) (maximumf (broadcast S2688x1 (Scalar.sitofp .f32 a))
          (roundeven (subf (broadcast S2688x1 (Scalar.ofBits .f32 c)) (mulf (divf l s) (broadcast S2688x1 (Scalar.ofBits .f32 d))))))))
        (ix2 r 0)
      = Ideal.fptosi 32 (if h (ix2 r 0) = l (ix2 r 0) then 0 else clip a b (Ideal.liftRound Ideal.roundHalfEven
          (Ideal.ofBits .f32 c - Ideal.div (l (ix2 r 0)) (s (ix2 r 0)) * Ideal.ofBits .f32 d))) := by
    intro h l s a b c d
    unfold clip
    pointwise
    rfl
  rw [zeroOf, ← high_apply x r, ← low_apply x r, ← scale_apply x r]
  exact key (k0_pay6 x) (k0_pay5 x) (k0_pay8 x) _ _ _ _

/-- The codes. -/
theorem code_apply (a b : BitVec 32) (k : Fin 2048) : k0_pay1 (k0_pay10 x) a b (ix2 r k)
    = codeOf a b (fun j => x (ix2 r j)) (((k0_pay9 x (ix2 r 0)).toInt : ℝ) : EReal) k := by
  have key : ∀ (n : FVec Ideal S2688x2048 .f32) (s : FVec Ideal S2688x1 .f32) (z : IVec S2688x1 32),
      k0_pay1 (addf (roundeven (divf n (broadcastTo S2688x2048 s broadcasts_S2688x1_S2688x2048)))
        (broadcastTo S2688x2048 (sitofp .f32 z : FVec Ideal S2688x1 .f32) broadcasts_S2688x1_S2688x2048)) a b (ix2 r k)
      = Ideal.fptosi 8 (clip a b (Ideal.liftRound Ideal.roundHalfEven (Ideal.div (n (ix2 r k)) (s (ix2 r 0)))
          + (((z (ix2 r 0)).toInt : ℝ) : EReal))) := by
    intro n s z
    unfold k0_pay1 clip
    pointwise
    rfl
  rw [codeOf, ← normed_apply x r, ← scale_apply x r]
  exact key (k0_pay4 x) (k0_pay8 x) (k0_pay9 x)

/-- The column of scales laid out as rows of 448. -/
theorem scaleRow_apply (s : FVec Ideal S2688x1 .f32) (t : Fin 6) (j : Fin 448) (h : t.val * 448 + j.val < 2688) :
    k0_pay2 s (ix3 t 0 j) = s (ix2 ⟨t.val * 448 + j.val, h⟩ 0) := by
  unfold k0_pay2
  pointwise

/-- The column of zero points laid out as rows of 448. -/
theorem zeroRow_apply (z : IVec S2688x1 32) (t : Fin 6) (j : Fin 448) (h : t.val * 448 + j.val < 2688) :
    k0_pay3 z (ix3 t 0 j) = z (ix2 ⟨t.val * 448 + j.val, h⟩ 0) := by
  unfold k0_pay3
  pointwise

end Cert.Quantise.Ref
-- ==== Proof.QuantiseRefArray.lean ====
/-
  The reference's result arrays, entry by entry: the quantiser of the rows of its first argument.
-/
module

public import proofs.«01_k».proof.Proof.QuantiseRun
public import proofs.«01_k».proof.Proof.QuantiseRef

@[expose] public section

set_option maxRecDepth 16384

noncomputable section

namespace Cert.Quantise.Ref

open Idealize.ShloMosaic Idealize.ShloMosaic.TcCoe Idealize.ShloMosaic.Tactic
open Cert.QkvReferenceIdeal Cert.QkvReferenceIdeal.Gen Cert.QkvReferenceIdeal.Value

variable (m : (ℓ : Loc nD τ sig) → Buf (Elt Ideal) ℓ)

/-- The one point. -/
abbrev pt : Fin cfg0.N := ⟨0, by decide⟩

/-- Each window is its whole array and is written back. -/
theorem idx : (win0_0.index pt 0 = 0 ∧ win0_0.index pt 1 = 0) ∧ (win0_1.index pt 0 = 0 ∧ win0_1.index pt 1 = 0)
    ∧ (win0_2.index pt 0 = 0 ∧ win0_2.index pt 1 = 0 ∧ win0_2.index pt 2 = 0)
    ∧ (win0_3.index pt 0 = 0 ∧ win0_3.index pt 1 = 0 ∧ win0_3.index pt 2 = 0)
    ∧ (cfg0.win 1).flush pt = true ∧ (cfg0.win 2).flush pt = true ∧ (cfg0.win 3).flush pt = true := by decide +kernel

/-- The index of an entry of the argument, from its row's number. -/
theorem apart (f : Vec Ideal S6x448x2048 .bf16) (p : Fin 2688) (q : Fin 2048) (b : Fin 6) (s : Fin 448) (k : Fin 2048)
    (h₁ : p.val / 448 < 6) (h₂ : p.val % 448 < 448) (hp : p.val = b.val * 448 + s.val) (hq : q = k) :
    f (ix3 ⟨p.val / 448, h₁⟩ ⟨p.val % 448, h₂⟩ q) = f (ix3 b s k) := by
  have hs := s.isLt
  subst hq
  rw [show (⟨p.val / 448, h₁⟩ : Fin 6) = b from Fin.ext (by dsimp only; omega),
    show (⟨p.val % 448, h₂⟩ : Fin 448) = s from Fin.ext (by dsimp only; omega)]

/-- The rows read: the first argument's, its two leading axes as one. -/
theorem blk0 (c : Dev nD) (b : Fin 6) (s : Fin 448) (k : Fin 2048) (R : Fin 2688) (hR : R.val = b.val * 448 + s.val) :
    (iblk m c 0 pt : Vec Ideal S2688x2048 .bf16) (ix2 R k) = m ((c : Thread nD τ).loc main_arg0) (ix3 b s k) := by
  blk_simp [iblk, idx]
  entry_read
  pointwise
  have h0 : (((View.whole main_v0).slice (win0_0.rect pt)).emb (ix2 R k) 0).val = R.val := by
    show win0_0.index pt 0 * 2688 + 1 * R.val = R.val
    rw [idx.1.1]; omega
  have h1 : (((View.whole main_v0).slice (win0_0.rect pt)).emb (ix2 R k) 1) = k := Fin.ext (by
    show win0_0.index pt 1 * 2048 + 1 * k.val = k.val
    rw [idx.1.2]; omega)
  exact apart _ _ _ b s k _ _ (h0.trans (by omega)) h1

/-- The codes. -/
theorem codes (c : Dev nD) (b : Fin 6) (s : Fin 448) (k : Fin 2048) (R : Fin 2688) (hR : R.val = b.val * 448 + s.val) :
    ((dats m 0 c).arrAt 1 cfg0.N : Vec Ideal S2688x2048 .i8) (ix2 R k)
      = codeOf 4294967168#32 127#32 (fun j => (m ((c : Thread nD τ).loc main_arg0) : Vec Ideal S6x448x2048 .bf16) (ix3 b s j))
        (zeroOf 4294967168#32 127#32 fun j => (m ((c : Thread nD τ).loc main_arg0) : Vec Ideal S6x448x2048 .bf16) (ix3 b s j)) k := by
  have h : ((cfg0.win 1).blk pt).view.emb (ix2 R k : S2688x2048.Idx) = (ix2 R k : S2688x2048.Idx) := by
    funext a
    apply Fin.ext
    match a with
    | ⟨0, _⟩ => show win0_1.index pt 0 * 2688 + 1 * R.val = R.val; rw [idx.2.1.1]; omega
    | ⟨1, _⟩ => show win0_1.index pt 1 * 2048 + 1 * k.val = k.val; rw [idx.2.1.2]; omega
  have e := (congrFun (blocks1 m c pt idx.2.2.2.2.1) (ix2 R k : S2688x2048.Idx)).trans (congrFun (flushed1 m c pt) (ix2 R k : S2688x2048.Idx))
  replace e : (dats m 0 c).arrAt 1 cfg0.N (((cfg0.win 1).blk pt).view.emb (ix2 R k : S2688x2048.Idx)) = out0_1 (iblk m c 0 pt) (ix2 R k) := e
  rw [h] at e
  refine e.trans ?_
  unfold out0_1
  rw [View.canon_unit_zero (by decide)]
  simp (disch := decide) only [View.ld_unit_lit]
  rw [code_apply, zero_apply, zeroOf_back _ _ (by decide) (by decide)]
  simp only [fun j => blk0 m c b s j R hR]

/-- The scales. -/
theorem scales (c : Dev nD) (b : Fin 6) (s : Fin 448) :
    ((dats m 0 c).arrAt 2 cfg0.N : Vec Ideal S6x1x448 .f32) (ix3 b 0 s)
      = scaleOf fun j => (m ((c : Thread nD τ).loc main_arg0) : Vec Ideal S6x448x2048 .bf16) (ix3 b s j) := by
  have h : ((cfg0.win 2).blk pt).view.emb (ix3 b 0 s : S6x1x448.Idx) = (ix3 b 0 s : S6x1x448.Idx) := by
    funext a
    apply Fin.ext
    match a with
    | ⟨0, _⟩ => show win0_2.index pt 0 * 6 + 1 * b.val = b.val; rw [idx.2.2.1.1]; omega
    | ⟨1, _⟩ => show win0_2.index pt 1 * 1 + 1 * 0 = 0; rw [idx.2.2.1.2.1]
    | ⟨2, _⟩ => show win0_2.index pt 2 * 448 + 1 * s.val = s.val; rw [idx.2.2.1.2.2]; omega
  have e := (congrFun (blocks2 m c pt idx.2.2.2.2.2.1) (ix3 b 0 s : S6x1x448.Idx)).trans (congrFun (flushed2 m c pt) (ix3 b 0 s : S6x1x448.Idx))
  replace e : (dats m 0 c).arrAt 2 cfg0.N (((cfg0.win 2).blk pt).view.emb (ix3 b 0 s : S6x1x448.Idx)) = out0_2 (iblk m c 0 pt) (ix3 b 0 s) := e
  rw [h] at e
  refine e.trans ?_
  unfold out0_2
  rw [View.canon_unit_zero (by decide)]
  simp (disch := decide) only [View.ld_unit_lit]
  have hb : b.val * 448 + s.val < 2688 := by have := b.isLt; have := s.isLt; omega
  rw [scaleRow_apply _ b s hb, scale_apply]
  simp only [fun j => blk0 m c b s j ⟨b.val * 448 + s.val, hb⟩ rfl]

/-- The zero points. -/
theorem zeros (c : Dev nD) (b : Fin 6) (s : Fin 448) :
    ((dats m 0 c).arrAt 3 cfg0.N : Vec Ideal S6x1x448 .i32) (ix3 b 0 s)
      = Ideal.fptosi 32 (zeroOf 4294967168#32 127#32 fun j => (m ((c : Thread nD τ).loc main_arg0) : Vec Ideal S6x448x2048 .bf16) (ix3 b s j)) := by
  have h : ((cfg0.win 3).blk pt).view.emb (ix3 b 0 s : S6x1x448.Idx) = (ix3 b 0 s : S6x1x448.Idx) := by
    funext a
    apply Fin.ext
    match a with
    | ⟨0, _⟩ => show win0_3.index pt 0 * 6 + 1 * b.val = b.val; rw [idx.2.2.2.1.1]; omega
    | ⟨1, _⟩ => show win0_3.index pt 1 * 1 + 1 * 0 = 0; rw [idx.2.2.2.1.2.1]
    | ⟨2, _⟩ => show win0_3.index pt 2 * 448 + 1 * s.val = s.val; rw [idx.2.2.2.1.2.2]; omega
  have e := (congrFun (blocks3 m c pt idx.2.2.2.2.2.2) (ix3 b 0 s : S6x1x448.Idx)).trans (congrFun (flushed3 m c pt) (ix3 b 0 s : S6x1x448.Idx))
  replace e : (dats m 0 c).arrAt 3 cfg0.N (((cfg0.win 3).blk pt).view.emb (ix3 b 0 s : S6x1x448.Idx)) = out0_3 (iblk m c 0 pt) (ix3 b 0 s) := e
  rw [h] at e
  refine e.trans ?_
  unfold out0_3
  rw [View.canon_unit_zero (by decide)]
  simp (disch := decide) only [View.ld_unit_lit]
  have hb : b.val * 448 + s.val < 2688 := by have := b.isLt; have := s.isLt; omega
  rw [zeroRow_apply _ b s hb, zero_apply]
  simp only [fun j => blk0 m c b s j ⟨b.val * 448 + s.val, hb⟩ rfl]

end Cert.Quantise.Ref
-- ==== Proof.QuantiseEquation.lean ====
/-
  The value claim of the quantiser: the kernel's codes, scales and zero points are the reference's, whatever the arguments.
-/
module

public import proofs.«01_k».proof.Defs
public import proofs.«01_k».proof.Proof.QuantiseArray
public import proofs.«01_k».proof.Proof.QuantiseRefArray

@[expose] public section

set_option maxRecDepth 16384

noncomputable section

namespace Cert.Quantise

open Idealize.ShloMosaic Idealize.ShloMosaic.TcCoe Idealize.SL.Sem

/-- The kernel and the reference end with equal codes, scales and zero points. -/
theorem algebraic : Cert.algebraic_QkvIdeal_QkvReferenceIdeal (hQkvIdeal := Cert.QkvIdeal.Gen.facts)
    (hQkvReferenceIdeal := Cert.QkvReferenceIdeal.Gen.facts) := by
  intro m g m' g' hpre hargs
  refine ⟨fun c => (Cert.QkvIdeal.Gen.dats m 0 c).arrAt 6 Cert.QkvIdeal.cfg0.N, fun c => (Cert.QkvIdeal.Gen.dats m 0 c).arrAt 7 Cert.QkvIdeal.cfg0.N,
    fun c => (Cert.QkvIdeal.Gen.dats m 0 c).arrAt 8 Cert.QkvIdeal.cfg0.N, ?_, ?_⟩
  · refine (θ_run (Cert.QkvIdeal.defs (F := Ideal)) _ _).mono (fun r h c => ?_) (Cert.QkvIdeal.Value.run_blocks (F := Ideal) m g)
    obtain ⟨h0, h1, h2, -, -, -, -, -, -, hk⟩ := h c
    exact ⟨h0, h1, h2, hk⟩
  · refine (θ_run (Cert.QkvReferenceIdeal.defs (F := Ideal)) _ _).mono (fun r h c => ?_) (Cert.QkvReferenceIdeal.Value.run_blocks (F := Ideal) m' g')
    obtain ⟨h0, h1, h2, hk⟩ := h c
    have ha := (hargs c).1
    refine ⟨h0.trans ?_, h1.trans ?_, h2.trans ?_, hk⟩
    · funext y
      obtain ⟨R, k, rfl⟩ : ∃ (R : Fin 2688) (k : Fin 2048), y = ix2 R k := ⟨_, _, eq_ix2 y⟩
      have hR := R.isLt
      have e : R.val = (⟨R.val / 448, by omega⟩ : Fin 6).val * 448 + (⟨R.val % 448, by omega⟩ : Fin 448).val := by dsimp only; omega
      refine (Ref.codes m' c _ _ k R e).trans ?_
      rw [show m' ((c : Thread Cert.QkvReferenceIdeal.nD Cert.QkvReferenceIdeal.τ).loc Cert.QkvReferenceIdeal.main_arg0) = _ from ha]
      exact (codes_array m c _ _ k R e).symm
    · funext y
      obtain ⟨b, z, s, rfl⟩ : ∃ (b : Fin 6) (z : Fin 1) (s : Fin 448), y = ix3 b z s := ⟨_, _, _, eq_ix3 y⟩
      obtain rfl : z = 0 := Subsingleton.elim _ _
      refine (Ref.scales m' c b s).trans ?_
      rw [show m' ((c : Thread Cert.QkvReferenceIdeal.nD Cert.QkvReferenceIdeal.τ).loc Cert.QkvReferenceIdeal.main_arg0) = _ from ha]
      exact (scales_array m c b s).symm
    · funext y
      obtain ⟨b, z, s, rfl⟩ : ∃ (b : Fin 6) (z : Fin 1) (s : Fin 448), y = ix3 b z s := ⟨_, _, _, eq_ix3 y⟩
      obtain rfl : z = 0 := Subsingleton.elim _ _
      refine (Ref.zeros m' c b s).trans ?_
      rw [show m' ((c : Thread Cert.QkvReferenceIdeal.nD Cert.QkvReferenceIdeal.τ).loc Cert.QkvReferenceIdeal.main_arg0) = _ from ha]
      exact (zeros_array m c b s).symm

end Cert.Quantise
-- ==== Proof.lean ====
/-
  The proof of `Cert.Claim`: for each of the three calls taken the frames of the kernel, of its idealization and of the reference;
  the idealization's rewrites; and the value claim, whose proof is in Proof/Equation.lean, Proof/SecondEquation.lean and
  Proof/QuantiseEquation.lean.
-/
module

public import proofs.«01_k».proof.Defs
public import proofs.«01_k».proof.Proof.Gen.Kernel.Frame
public import proofs.«01_k».proof.Proof.Gen.KernelIdeal.Frame
public import Idealize.ShloMosaic.Lib.Bf16Pair
public import Idealize.ShloMosaic.Lib.Bf16PairInverse
public import proofs.«01_k».proof.Proof.Gen.ReferenceIdeal.Run
public import proofs.«01_k».proof.Proof.Equation
public import proofs.«01_k».proof.Proof.Gen.Second.Frame
public import proofs.«01_k».proof.Proof.Gen.SecondIdeal.Frame
public import proofs.«01_k».proof.Proof.Gen.SecondIdeal.Value
public import proofs.«01_k».proof.Proof.Gen.SecondReferenceIdeal.Run
public import proofs.«01_k».proof.Proof.SecondEquation
public import proofs.«01_k».proof.Proof.Gen.Qkv.Frame
public import proofs.«01_k».proof.Proof.Gen.QkvIdeal.Frame
public import proofs.«01_k».proof.Proof.Gen.QkvIdeal.Value
public import proofs.«01_k».proof.Proof.Gen.QkvReferenceIdeal.Frame
public import proofs.«01_k».proof.Proof.QuantiseEquation

@[expose] public section

noncomputable section

namespace Cert.Proof

open Idealize.ShloMosaic Idealize.SL.Sem

/-- The first layer's reference runs, keeps its arguments, and has no semaphores. -/
theorem referenceFrame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The second layer's reference runs, keeps its arguments, and has no semaphores. -/
theorem secondReferenceFrame : Cert.quiescent_SecondReferenceIdeal (hSecondReferenceIdeal := Cert.SecondReferenceIdeal.Gen.facts) := fun m ρ _ =>
  (θ_run Cert.SecondReferenceIdeal.defs _ _).mono (fun r h => ⟨fun c => (h c).2, sem_eq_zero_of_no_sems (by decide) r.2⟩)
    (Cert.SecondReferenceIdeal.Value.run (F := Ideal) m ρ)

/-- The rewrites that made the first layer's idealization, each by its rule's own proof: the two re-typed scratches, the packed
    scales, and the rows stored and read back as pairs. -/
theorem preserves : Cert.preserves_Kernel_KernelIdeal :=
  open Cert.KernelIdeal IdealRules.bf16_pair in
  ⟨bufferStatement S64x2x256 S64x1x256, packStatement S64x256, statement S64x2x256 S64x1x256, statement S1x2x256 S1x1x256,
    statement S16x256 S8x256⟩

/-- The same rewrites of the second layer's. -/
theorem secondPreserves : Cert.preserves_Second_SecondIdeal := preserves

/-- The same rewrites of the projection call's. -/
theorem qkvPreserves : Cert.preserves_Qkv_QkvIdeal :=
  open Cert.QkvIdeal IdealRules.bf16_pair in
  ⟨bufferStatement S64x2x3072 S64x1x3072, packStatement S64x3072, statement S64x2x3072 S64x1x3072, statement S1x2x3072 S1x1x3072,
    statement S16x3072 S8x3072⟩

/-- Everything the certificate claims. -/
theorem claim : Cert.Claim :=
  ⟨Cert.Kernel.Gen.facts, Cert.KernelIdeal.Gen.facts, Cert.ReferenceIdeal.Gen.facts, Cert.Second.Gen.facts, Cert.SecondIdeal.Gen.facts,
    Cert.SecondReferenceIdeal.Gen.facts, Cert.Qkv.Gen.facts, Cert.QkvIdeal.Gen.facts, Cert.QkvReferenceIdeal.Gen.facts, Cert.GateUp.preFacts, Cert.GateUp.Second.preFacts,
    fun m ρ _ => Cert.Kernel.Gen.frame m ρ, fun m ρ _ => Cert.KernelIdeal.Gen.frame m ρ,
    fun m ρ _ => Cert.KernelIdeal.Gen.frame m ρ, referenceFrame, fun m ρ _ => referenceFrame m ρ trivial,
    fun m ρ _ => Cert.Second.Gen.frame m ρ, fun m ρ _ => Cert.SecondIdeal.Gen.frame m ρ,
    fun m ρ _ => Cert.SecondIdeal.Gen.frame m ρ, secondReferenceFrame, fun m ρ _ => secondReferenceFrame m ρ trivial,
    fun m ρ _ => Cert.Qkv.Gen.frame m ρ, fun m ρ _ => Cert.QkvIdeal.Gen.frame m ρ, fun m ρ _ => Cert.QkvReferenceIdeal.Gen.frame m ρ,
    preserves, Cert.GateUp.algebraic, secondPreserves, Cert.GateUp.Second.algebraic, qkvPreserves,
    Cert.Quantise.algebraic⟩

end Cert.Proof

end
